-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S256x256 Cert.KernelIdeal.S128x256
  ∧ IdealRules.bf16_pair.Statement Cert.KernelIdeal.S256x128 Cert.KernelIdeal.S128x128
  ∧ IdealRules.bf16_pair.SelectZeroStatement Cert.KernelIdeal.S128x128
  ∧ IdealRules.named_const.Statement Cert.KernelIdeal.κ "ln2" .f32 0x3F317218#32 ((Real.log 2 : ℝ) : EReal)
  ∧ IdealRules.named_const.Statement Cert.KernelIdeal.κ "inv448" .f32 0x3B124925#32 ((1 / 448 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S9x2048x7168 : Shape := ⟨3, ![9, 2048, 7168]⟩
abbrev S576x7168 : Shape := ⟨2, ![576, 7168]⟩
abbrev S5x56 : Shape := ⟨2, ![5, 56]⟩
abbrev S512 : Shape := ⟨1, ![512]⟩
abbrev S_ : Shape := ⟨0, ![]⟩

class Facts : Prop where
  bcast_S_S9x2048x7168 : S_.BroadcastsInDim S9x2048x7168 (![] : Fin 0 → Fin S9x2048x7168.rank)

variable [Facts]

def fn {F : FTy → Type} [FloatOps F] (main_arg0 : FVec F S9x2048x7168 .bf16) (main_arg1 : FVec F S576x7168 .fp8e4m3) (main_arg2 : FVec F S5x56 .f32) (main_arg3 : FVec F S512 .bf16) : IVec S9x2048x7168 1 :=
  let main_v0 : FVec F S9x2048x7168 .bf16 := Host.absf main_arg0
  let main_cst : FVec F S_ .bf16 := constant S_ .bf16 0x7F7F#16
  let main_v1 : FVec F S9x2048x7168 .bf16 := broadcastInDim S9x2048x7168 ![] bcast_S_S9x2048x7168 main_cst
  let main_v2 : IVec S9x2048x7168 1 := cmpf .ole main_v0 main_v1
  main_v2
-- ==== Kernel.lean ====
abbrev S9x2048x7168 : Shape := ⟨3, ![9, 2048, 7168]⟩
abbrev S576x7168 : Shape := ⟨2, ![576, 7168]⟩
abbrev S5x56 : Shape := ⟨2, ![5, 56]⟩
abbrev S512 : Shape := ⟨1, ![512]⟩
abbrev S18432x7168 : Shape := ⟨2, ![18432, 7168]⟩
abbrev S512x1 : Shape := ⟨2, ![512, 1]⟩
abbrev S512x256 : Shape := ⟨2, ![512, 256]⟩
abbrev S18432x512 : Shape := ⟨2, ![18432, 512]⟩
abbrev S9x2048x64 : Shape := ⟨3, ![9, 2048, 64]⟩
abbrev S9x2048x56 : Shape := ⟨3, ![9, 2048, 56]⟩
abbrev S256x7168 : Shape := ⟨2, ![256, 7168]⟩
abbrev S256x512 : Shape := ⟨2, ![256, 512]⟩
abbrev S1x256x64 : Shape := ⟨3, ![1, 256, 64]⟩
abbrev S1x256x56 : Shape := ⟨3, ![1, 256, 56]⟩
abbrev S1x1 : Shape := ⟨2, ![1, 1]⟩
abbrev S128x128 : Shape := ⟨2, ![128, 128]⟩
abbrev S64x128 : Shape := ⟨2, ![64, 128]⟩
abbrev S256x128 : Shape := ⟨2, ![256, 128]⟩
abbrev S256x256 : Shape := ⟨2, ![256, 256]⟩
abbrev S128x256 : Shape := ⟨2, ![128, 256]⟩
abbrev S256 : Shape := ⟨1, ![256]⟩
abbrev S256x1 : Shape := ⟨2, ![256, 1]⟩
abbrev S576x256 : Shape := ⟨2, ![576, 256]⟩
abbrev S56x256 : Shape := ⟨2, ![56, 256]⟩
abbrev S256x56 : Shape := ⟨2, ![256, 56]⟩
abbrev S1x256 : Shape := ⟨2, ![1, 256]⟩
abbrev S64x256 : Shape := ⟨2, ![64, 256]⟩
abbrev S256x64 : Shape := ⟨2, ![256, 64]⟩

abbrev nBuf : Space → Nat
  | .hbm => 12
  | .vmem => 13
  | .smem => 1
  | _ => 0

abbrev bufTy : (tb : Table) → Fin (tcTables nBuf tb) → BufTy
  | .hbm, ⟨0, _⟩ => ⟨S9x2048x7168, .bf16⟩
  | .hbm, ⟨1, _⟩ => ⟨S576x7168, .fp8e4m3⟩
  | .hbm, ⟨2, _⟩ => ⟨S5x56, .f32⟩
  | .hbm, ⟨3, _⟩ => ⟨S512, .bf16⟩
  | .hbm, ⟨4, _⟩ => ⟨S18432x7168, .bf16⟩
  | .hbm, ⟨5, _⟩ => ⟨S512, .f32⟩
  | .hbm, ⟨6, _⟩ => ⟨S512x1, .f32⟩
  | .hbm, ⟨7, _⟩ => ⟨S512x256, .f32⟩
  | .hbm, ⟨8, _⟩ => ⟨S18432x512, .bf16⟩
  | .hbm, ⟨9, _⟩ => ⟨S9x2048x64, .bf16⟩
  | .hbm, ⟨10, _⟩ => ⟨S18432x7168, .fp8e4m3⟩
  | .hbm, ⟨11, _⟩ => ⟨S9x2048x56, .f32⟩
  | .local _ .vmem, ⟨0, _⟩ => ⟨S256x7168, .bf16⟩
  | .local _ .vmem, ⟨1, _⟩ => ⟨S256x7168, .bf16⟩
  | .local _ .vmem, ⟨2, _⟩ => ⟨S576x7168, .fp8e4m3⟩
  | .local _ .vmem, ⟨3, _⟩ => ⟨S512x256, .f32⟩
  | .local _ .vmem, ⟨4, _⟩ => ⟨S256x512, .bf16⟩
  | .local _ .vmem, ⟨5, _⟩ => ⟨S256x512, .bf16⟩
  | .local _ .vmem, ⟨6, _⟩ => ⟨S1x256x64, .bf16⟩
  | .local _ .vmem, ⟨7, _⟩ => ⟨S1x256x64, .bf16⟩
  | .local _ .vmem, ⟨8, _⟩ => ⟨S256x7168, .fp8e4m3⟩
  | .local _ .vmem, ⟨9, _⟩ => ⟨S256x7168, .fp8e4m3⟩
  | .local _ .vmem, ⟨10, _⟩ => ⟨S1x256x56, .f32⟩
  | .local _ .vmem, ⟨11, _⟩ => ⟨S1x256x56, .f32⟩
  | .local _ .vmem, ⟨12, _⟩ => ⟨S576x7168, .bf16⟩
  | .local _ .smem, ⟨0, _⟩ => ⟨S5x56, .f32⟩
  | _, _ => ⟨S9x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [BitOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S5x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x56 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv448" => some ((1 / 448 : ℝ) : EReal)
  | "ln2" => some ((Real.log 2 : ℝ) : EReal)
  | _ => none
-- ==== ReferenceIdeal.lean ====
abbrev S9x2048x7168 : Shape := ⟨3, ![9, 2048, 7168]⟩
abbrev S576x7168 : Shape := ⟨2, ![576, 7168]⟩
abbrev S5x56 : Shape := ⟨2, ![5, 56]⟩
abbrev S512 : Shape := ⟨1, ![512]⟩
abbrev S18432x7168 : Shape := ⟨2, ![18432, 7168]⟩
abbrev S18432x512 : Shape := ⟨2, ![18432, 512]⟩
abbrev S9x2048x64 : Shape := ⟨3, ![9, 2048, 64]⟩
abbrev S9x2048x56 : Shape := ⟨3, ![9, 2048, 56]⟩
abbrev S18432x56x128 : Shape := ⟨3, ![18432, 56, 128]⟩
abbrev S18432x56 : Shape := ⟨2, ![18432, 56]⟩
abbrev S18432x56x1 : Shape := ⟨3, ![18432, 56, 1]⟩
abbrev S5x1x56 : Shape := ⟨3, ![5, 1, 56]⟩
abbrev S5x128x56 : Shape := ⟨3, ![5, 128, 56]⟩
abbrev S640x56 : Shape := ⟨2, ![640, 56]⟩
abbrev S640x56x1 : Shape := ⟨3, ![640, 56, 1]⟩
abbrev S640x56x128 : Shape := ⟨3, ![640, 56, 128]⟩
abbrev S640x7168 : Shape := ⟨2, ![640, 7168]⟩
abbrev S18432x576 : Shape := ⟨2, ![18432, 576]⟩
abbrev S18432x64 : Shape := ⟨2, ![18432, 64]⟩
abbrev S18432 : Shape := ⟨1, ![18432]⟩
abbrev S18432x1 : Shape := ⟨2, ![18432, 1]⟩
abbrev S1x512 : Shape := ⟨2, ![1, 512]⟩

abbrev nBuf : Space → Nat
  | .hbm => 9
  | .vmem => 8
  | .smem => 0
  | _ => 0

abbrev bufTy : (tb : Table) → Fin (tcTables nBuf tb) → BufTy
  | .hbm, ⟨0, _⟩ => ⟨S9x2048x7168, .bf16⟩
  | .hbm, ⟨1, _⟩ => ⟨S576x7168, .fp8e4m3⟩
  | .hbm, ⟨2, _⟩ => ⟨S5x56, .f32⟩
  | .hbm, ⟨3, _⟩ => ⟨S512, .bf16⟩
  | .hbm, ⟨4, _⟩ => ⟨S18432x7168, .bf16⟩
  | .hbm, ⟨5, _⟩ => ⟨S18432x512, .bf16⟩
  | .hbm, ⟨6, _⟩ => ⟨S9x2048x64, .bf16⟩
  | .hbm, ⟨7, _⟩ => ⟨S18432x7168, .fp8e4m3⟩
  | .hbm, ⟨8, _⟩ => ⟨S9x2048x56, .f32⟩
  | .local _ .vmem, ⟨0, _⟩ => ⟨S18432x7168, .bf16⟩
  | .local _ .vmem, ⟨1, _⟩ => ⟨S576x7168, .fp8e4m3⟩
  | .local _ .vmem, ⟨2, _⟩ => ⟨S5x56, .f32⟩
  | .local _ .vmem, ⟨3, _⟩ => ⟨S512, .bf16⟩
  | .local _ .vmem, ⟨4, _⟩ => ⟨S18432x512, .bf16⟩
  | .local _ .vmem, ⟨5, _⟩ => ⟨S9x2048x64, .bf16⟩
  | .local _ .vmem, ⟨6, _⟩ => ⟨S18432x7168, .fp8e4m3⟩
  | .local _ .vmem, ⟨7, _⟩ => ⟨S9x2048x56, .f32⟩
  | _, _ => ⟨S9x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "inv448" => some ((1 / 448 : ℝ) : EReal)
  | "ln2" => some ((Real.log 2 : ℝ) : EReal)
  | _ => none

abbrev grid0 : Pipeline.Grid := .none

abbrev stage0_0 : Fin 1 → Memref sig .tc .vmem S18432x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S576x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18432x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x2048x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18432x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9x2048x56 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Block.lean ====
/-
  What one grid point of the kernel computes, as functions of the chunks it loads: the body's straight line, its
  repetition over the fifty-six column blocks and the twenty-eight chunks written as recursions on the block's number.
-/
module

public import proofs.«01_k».proof.Proof.Gen.KernelIdeal
public import Idealize.ShloMosaic.Lib.Pipeline.FrameBody

@[expose] public section

noncomputable section

namespace Cert.KernelIdeal.Block

open Idealize.ShloMosaic Cert.KernelIdeal Cert.KernelIdeal.Gen

variable {F : FTy → Type} [FloatOps F] [Named F]

theorem inbX (c : ℕ) : ∀ a, (![0, 256 * (c % 28)] : Fin 2 → ℕ) a + S256x256.size a ≤ S256x7168.size a := by
  have := Nat.mod_lt c (show 0 < 28 by omega)
  intro a; match a with
  | 0 => show 0 + 256 ≤ 256; omega
  | 1 => show 256 * (c % 28) + 256 ≤ 7168; omega

theorem inbW (c : ℕ) : ∀ a, (![0, 256 * (c % 28)] : Fin 2 → ℕ) a + S576x256.size a ≤ S576x7168.size a := by
  have := Nat.mod_lt c (show 0 < 28 by omega)
  intro a; match a with
  | 0 => show 0 + 576 ≤ 576; omega
  | 1 => show 256 * (c % 28) + 256 ≤ 7168; omega

theorem inbC (k : ℕ) : ∀ a, (![0, 128 * (k % 56)] : Fin 2 → ℕ) a + S256x128.size a ≤ S256x7168.size a := by
  have := Nat.mod_lt k (show 0 < 56 by omega)
  intro a; match a with
  | 0 => show 0 + 256 ≤ 256; omega
  | 1 => show 128 * (k % 56) + 128 ≤ 7168; omega

theorem slH (h : ℕ) : S128x256.Slices ![0, 128 * (h % 2)] S128x128 := by
  have := Nat.mod_lt h (show 0 < 2 by omega)
  refine ⟨rfl, fun a => ?_⟩
  match a with
  | 0 => show 0 + 128 ≤ 128; omega
  | 1 => show 128 * (h % 2) + 128 ≤ 256; omega

/-- Chunk `c` of the rows: 256 columns. -/
def chunkX (x : Vec F S256x7168 .bf16) (c : ℕ) : Vec F S256x256 .bf16 :=
  View.ld x (Rect.unit (s := S256x7168) ![0, 256 * (c % 28)] S256x256.size (inbX c))

/-- Chunk `c` of the scaled weights. -/
def chunkW (w : Vec F S576x7168 .bf16) (c : ℕ) : Vec F S576x256 .bf16 :=
  View.ld w (Rect.unit (s := S576x7168) ![0, 256 * (c % 28)] S576x256.size (inbW c))

/-- Column block `k` of the rows, its even and odd rows taken apart and interleaved back. -/
def blk (X : ℕ → Vec F S256x256 .bf16) (k : ℕ) : FVec F S256x128 .bf16 :=
  interleaveRows S256x128
    (extractStridedSlice S128x128 ![0, 128 * (k % 2)] (rowsOfParity 0 S128x256
      (shapeCast S256x256 (X (k / 2)) shapeCasts_S256x256_S256x256) bitcasts_S256x256_w16_S128x256_w32) (slH k))
    (extractStridedSlice S128x128 ![0, 128 * (k % 2)] (rowsOfParity 1 S128x256
      (shapeCast S256x256 (X (k / 2)) shapeCasts_S256x256_S256x256) bitcasts_S256x256_w16_S128x256_w32) (slH k))
    bitcasts_S256x128_w16_S128x128_w32

/-- The largest magnitude of each row of a block, along the row. -/
def mx (v : FVec F S256x128 .bf16) : FVec F S256x128 .bf16 :=
  broadcastTo S256x128 (shapeCast S256x1 (shapeCast S256x1
    (multiReduction .maximumf [1] S256 (absf v) 0xFF80#16 reduces_S256x128_S256 (.inr rfl) rfl)
    shapeCasts_S256_S256x1) shapeCasts_S256x1_S256x1) broadcasts_S256x1_S256x128

/-- The smallest normal scale, as the body spells it: a pattern of two halves. -/
def floorC : FVec F S256x128 .bf16 :=
  bitcastToFloat .bf16 (bitcast S256x128 16 (broadcast S128x128 75498624#32) bitcasts_S128x128_w32_S256x128_w16)

/-- The floor of the base-two logarithm. -/
def flogV (v : FVec F S256x128 .bf16) : FVec F S256x128 .f32 :=
  floor (divf (log (extf .f32 v bitsLt_bf16_f32)) (broadcast S256x128 (Named.named κ "ln2" 0x3F317218#32)))

/-- The power of two of each row's scale, from the largest magnitudes. -/
def pow (m : FVec F S256x128 .bf16) : FVec F S256x128 .bf16 :=
  truncf .bf16 (exp2 (flogV (maximumf (addf m (truncf .bf16
    (exp2 (subf (flogV m) (broadcast S256x128 (Scalar.ofBits .f32 0x40000000#32)))) bitsLt_bf16_f32)) floorC))) bitsLt_bf16_f32

/-- The codes of a block. -/
def codes (X : ℕ → Vec F S256x256 .bf16) (k : ℕ) : FVec F S256x128 .fp8e4m3 :=
  truncf .fp8e4m3 (minimumf (broadcast S256x128 (Scalar.truncf .bf16 bitsLt_bf16_f32 (Scalar.ofBits .f32 0x43E00000#32)))
    (maximumf (broadcast S256x128 (Scalar.truncf .bf16 bitsLt_bf16_f32 (Scalar.ofBits .f32 0xC3E00000#32)))
      (mulf (blk X k) (divf (broadcast S256x128 (Scalar.ofBits .bf16 0x4380#16)) (pow (mx (blk X k))))))) bitsLt_fp8e4m3_bf16

/-- The block as the matrix unit reads it: the codes times their scale. -/
def xq (X : ℕ → Vec F S256x256 .bf16) (k : ℕ) : FVec F S256x128 .bf16 :=
  mulf (extf .bf16 (codes X k) bitsLt_fp8e4m3_bf16)
    (mulf (pow (mx (blk X k))) (broadcast S256x128 (Scalar.ofBits .bf16 0x3B80#16)))

/-- The product of chunk `c`. -/
def dotC (X : ℕ → Vec F S256x256 .bf16) (W : ℕ → Vec F S576x256 .bf16) (c : ℕ) : FVec F S576x256 .f32 :=
  matmul dot_S576x256_S256x256_S576x256_1_1_0_0_n_n none (W c)
    (concatenate S256x256 1 [⟨S256x128, xq X (2 * c)⟩, ⟨S256x128, xq X (2 * c + 1)⟩] concatenates_S256x128_S256x128_S256x256_d1)
    (constant S576x256 .f32 0x00000000#32)

/-- The accumulator after chunk `c`. -/
def acc (X : ℕ → Vec F S256x256 .bf16) (W : ℕ → Vec F S576x256 .bf16) (c : ℕ) : FVec F S576x256 .f32 :=
  Nat.rec (dotC X W 0) (fun k p => addf p (dotC X W (k + 1))) c

/-- The lane-wise collection of the largest magnitudes after `n` blocks, the rows of one parity. -/
def am (p : Fin 2) (X : ℕ → Vec F S256x256 .bf16) (n : ℕ) : FVec F S128x128 .bf16 :=
  Nat.rec (constant S128x128 .bf16 0x0000#16)
    (fun k q => select (cmpi .eq (iota .tc S128x128 32 [1] iota_S128x128_d1_w32) (broadcast S128x128 (BitVec.ofNat 32 k)))
      (rowsOfParity p S128x128 (mx (blk X k)) bitcasts_S256x128_w16_S128x128_w32) q) n

/-- The pieces of the codes' block after `n` column blocks, the last first. -/
def codesP (X : ℕ → Vec F S256x256 .bf16) (n : ℕ) : List (View.Piece (Elt F) S256x7168 .fp8e4m3) :=
  Nat.rec [] (fun k q => ⟨Rect.unit (s := S256x7168) ![0, 128 * (k % 56)] S256x128.size (inbC k), codes X k⟩ :: q) n

/-- The scales of the point's rows. -/
def xsB (X : ℕ → Vec F S256x256 .bf16) : FVec F S256x56 .f32 :=
  let a : FVec F S56x256 .f32 := extf .f32 (extractStridedSlice S56x256 ![0, 0] (transpose S128x256 [1, 0]
    (interleaveRows S256x128 (am 0 X 56) (am 1 X 56) bitcasts_S256x128_w16_S128x128_w32) transposes_S256x128_p1_0_S128x256)
    slices_S128x256_o0_0_S56x256) bitsLt_bf16_f32
  transpose S256x56 [1, 0] (select (cmpf .oeq a (broadcast S56x256 (Scalar.ofBits .f32 0x00000000#32)))
    (broadcast S56x256 (Scalar.ofBits .f32 0x3F800000#32))
    (bitcastToFloat .f32 (shli (addi (fptosi 32 (minimumf (broadcast S56x256 (Scalar.ofBits .f32 0x437F0000#32))
      (maximumf (broadcast S56x256 (Scalar.ofBits .f32 0x00000000#32))
        (addf (floor (divf (log (mulf a (broadcast S56x256 (Named.named κ "inv448" 0x3B124925#32))))
          (broadcast S56x256 (Named.named κ "ln2" 0x3F317218#32)))) (broadcast S56x256 (Scalar.ofBits .f32 0x42FE0000#32))))))
      (broadcast S56x256 1#32)) (broadcast S56x256 23#32)))) transposes_S56x256_p1_0_S256x56

/-- The normalised latent rows of an accumulator. -/
def cnB (y : FVec F S576x256 .f32) (g : Vec F S512x256 .f32) : FVec F S256x512 .bf16 :=
  let u : FVec F S512x256 .f32 := extractStridedSlice S512x256 ![0, 0] y slices_S576x256_o0_0_S512x256
  transpose S256x512 [1, 0] (truncf .bf16 (mulf (mulf u (broadcastTo S512x256 (rsqrt (addf (mulf
    (shapeCast S1x256 (multiReduction .add [0] S256 (mulf u u) 0x00000000#32 reduces_S512x256_S256 (.inl rfl) rfl) shapeCasts_S256_S1x256)
    (broadcast S1x256 (Scalar.ofBits .f32 0x3B000000#32))) (broadcast S1x256 (Scalar.ofBits .f32 0x358637BD#32))))
    broadcasts_S1x256_S512x256)) (shapeCast S512x256 g shapeCasts_S512x256_S512x256)) bitsLt_bf16_f32) transposes_S512x256_p1_0_S256x512

/-- The rotary key rows of an accumulator. -/
def kpeB (y : FVec F S576x256 .f32) : FVec F S1x256x64 .bf16 :=
  shapeCast S1x256x64 (transpose S256x64 [1, 0] (truncf .bf16
    (extractStridedSlice S64x256 ![512, 0] y slices_S576x256_o512_0_S64x256) bitsLt_bf16_f32) transposes_S64x256_p1_0_S256x64)
    shapeCasts_S256x64_S1x256x64

theorem inbS (o k : ℕ) : ∀ a, (![128 * (o % 4), 128 * (k % 56)] : Fin 2 → ℕ) a + S128x128.size a ≤ S576x7168.size a := by
  have := Nat.mod_lt o (show 0 < 4 by omega)
  have := Nat.mod_lt k (show 0 < 56 by omega)
  intro a; match a with
  | 0 => show 128 * (o % 4) + 128 ≤ 576; omega
  | 1 => show 128 * (k % 56) + 128 ≤ 7168; omega

theorem inbL (k : ℕ) : ∀ a, (![512, 128 * (k % 56)] : Fin 2 → ℕ) a + S64x128.size a ≤ S576x7168.size a := by
  have := Nat.mod_lt k (show 0 < 56 by omega)
  intro a; match a with
  | 0 => show 512 + 64 ≤ 576; omega
  | 1 => show 128 * (k % 56) + 128 ≤ 7168; omega

theorem inbV (o k : ℕ) : ∀ a, (![o % 5, k % 56] : Fin 2 → ℕ) a + S1x1.size a ≤ S5x56.size a := by
  have := Nat.mod_lt o (show 0 < 5 by omega)
  have := Nat.mod_lt k (show 0 < 56 by omega)
  intro a; match a with
  | 0 => show o % 5 + 1 ≤ 5; omega
  | 1 => show k % 56 + 1 ≤ 56; omega

/-- A full block of the scaled weights. -/
def wB (s : Elt F .f32) (w : Vec F S128x128 .fp8e4m3) : FVec F S128x128 .bf16 :=
  shapeCast S128x128 (mulf (extf .bf16 w bitsLt_fp8e4m3_bf16) (truncf .bf16 (broadcast S128x128 s) bitsLt_bf16_f32))
    shapeCasts_S128x128_S128x128

/-- A block of the last, shorter, row of blocks. -/
def wL (s : Elt F .f32) (w : Vec F S64x128 .fp8e4m3) : FVec F S64x128 .bf16 :=
  shapeCast S64x128 (mulf (extf .bf16 w bitsLt_fp8e4m3_bf16) (truncf .bf16 (broadcast S64x128 s) bitsLt_bf16_f32))
    shapeCasts_S64x128_S64x128

/-- A full block's piece. -/
def pB (s : Elt F .f32) (w : Vec F S128x128 .fp8e4m3) (o k : ℕ) : View.Piece (Elt F) S576x7168 .bf16 :=
  ⟨Rect.unit (s := S576x7168) ![128 * (o % 4), 128 * (k % 56)] S128x128.size (inbS o k), wB s w⟩

/-- A last block's piece. -/
def pL (s : Elt F .f32) (w : Vec F S64x128 .fp8e4m3) (k : ℕ) : View.Piece (Elt F) S576x7168 .bf16 :=
  ⟨Rect.unit (s := S576x7168) ![512, 128 * (k % 56)] S64x128.size (inbL k), wL s w⟩

/-- The pieces of the scaled weights after `n` columns of blocks, the last first. -/
def scrP (S : ℕ → ℕ → Elt F .f32) (B : ℕ → ℕ → Vec F S128x128 .fp8e4m3) (L : ℕ → Vec F S64x128 .fp8e4m3) (n : ℕ) :
    List (View.Piece (Elt F) S576x7168 .bf16) :=
  Nat.rec [] (fun k q => pL (S 4 k) (L k) k :: pB (S 3 k) (B 3 k) 3 k :: pB (S 2 k) (B 2 k) 2 k :: pB (S 1 k) (B 1 k) 1 k
    :: pB (S 0 k) (B 0 k) 0 k :: q) n

/-- A full block of the weights. -/
def blkB (w : Vec F S576x7168 .fp8e4m3) (o k : ℕ) : Vec F S128x128 .fp8e4m3 :=
  View.ld w (Rect.unit (s := S576x7168) ![128 * (o % 4), 128 * (k % 56)] S128x128.size (inbS o k))

/-- A last block of the weights. -/
def blkL (w : Vec F S576x7168 .fp8e4m3) (k : ℕ) : Vec F S64x128 .fp8e4m3 :=
  View.ld w (Rect.unit (s := S576x7168) ![512, 128 * (k % 56)] S64x128.size (inbL k))

/-- The weights' scale of a block. -/
def blkS (v : Vec F S5x56 .f32) (o k : ℕ) : Elt F .f32 :=
  View.ld v (Rect.unit (s := S5x56) ![o % 5, k % 56] S1x1.size (inbV o k)) (Shape.Idx.first (s := S1x1) (by decide))

/-- The scaled weights the first point leaves in its scratch. -/
def scr (w : Vec F S576x7168 .fp8e4m3) (v : Vec F S5x56 .f32) : Vec F S576x7168 .bf16 :=
  View.canon (scrP (blkS v) (blkB w) (blkL w) 56)

end Cert.KernelIdeal.Block
-- ==== Proof.Open.lean ====
/-
  What a grid point leaves in its buffers, opened: the stores the frame's run found, at the first point and at a later
  one, are the block functions of `Block.lean` at the point's chunks.
-/
module

public import proofs.«01_k».proof.Proof.Gen.KernelIdeal.Frame
public import proofs.«01_k».proof.Proof.Block
public import Idealize.ShloMosaic.Lib.Pipeline.Value

@[expose] public section

set_option maxRecDepth 65536
noncomputable section

namespace Cert.KernelIdeal.Block

open Idealize.ShloMosaic Idealize.ShloMosaic.TcCoe Idealize.ShloMosaic.Tactic Cert.KernelIdeal Cert.KernelIdeal.Gen

variable {F : FTy → Type} [FloatOps F] [Named F]

variable (c : Dev nD) (i : grid0.Coords) (arg1 : Memref sig .tc .vmem S256x7168 .bf16) (harg1 : arg1.IsWhole) (arg2 : Memref sig .tc .vmem S576x7168 .fp8e4m3) (harg2 : arg2.IsWhole) (arg3 : Memref sig .tc .smem S5x56 .f32) (harg3 : arg3.IsWhole) (arg4 : Memref sig .tc .vmem S512x256 .f32) (harg4 : arg4.IsWhole) (arg5 : Memref sig .tc .vmem S256x512 .bf16) (harg5 : arg5.IsWhole) (arg6 : Memref sig .tc .vmem S1x256x64 .bf16) (harg6 : arg6.IsWhole) (arg7 : Memref sig .tc .vmem S256x7168 .fp8e4m3) (harg7 : arg7.IsWhole) (arg8 : Memref sig .tc .vmem S1x256x56 .f32) (harg8 : arg8.IsWhole) (arg9 : Memref sig .tc .vmem S576x7168 .bf16) (harg9 : arg9.IsWhole)
    (x0 : Vec F S256x7168 .bf16) (x1 : Vec F S576x7168 .fp8e4m3) (x2 : Vec F S5x56 .f32) (x3 : Vec F S512x256 .f32) (xs0 : Vec F S576x7168 .bf16)

/-- The loads of the rows, chunk by chunk, are the chunks of the rows' block. -/
def ldX (c : ℕ) : Vec F S256x256 .bf16 :=
  View.readAt (Elt F) arg1.view (Rect.unit (s := S256x7168) ![0, 256 * (c % 28)] S256x256.size (inbX c)).toLoadRect (harg1.unread x0)

/-- The loads of the scaled weights. -/
def ldW (c : ℕ) : Vec F S576x256 .bf16 :=
  View.readAt (Elt F) arg9.view (Rect.unit (s := S576x7168) ![0, 256 * (c % 28)] S576x256.size (inbW c)).toLoadRect (harg9.unread xs0)

/-- A later point's stores into the codes. -/
theorem run6_B (hc0 : ¬cond0_0 i) :
    (kernelRun0_B c i arg1 harg1 arg2 harg2 arg3 harg3 arg4 harg4 arg5 harg5 arg6 harg6 arg7 harg7 arg8 harg8 arg9 harg9 hc0 x0 x1 x2 x3 xs0).2.2.1
      = codesP (ldX arg1 harg1 x0) 56 := by
  sl_kernel_rfl

/-- A later point's store into the scales. -/
theorem run7_B (hc0 : ¬cond0_0 i) :
    (kernelRun0_B c i arg1 harg1 arg2 harg2 arg3 harg3 arg4 harg4 arg5 harg5 arg6 harg6 arg7 harg7 arg8 harg8 arg9 harg9 hc0 x0 x1 x2 x3 xs0).2.2.2.1
      = [⟨Rect.unit (s := S1x256x56) ![0, 0, 0] S1x256x56.size inb_S1x256x56_S1x256x56_0_0_0, shapeCast S1x256x56 (xsB (ldX arg1 harg1 x0)) shapeCasts_S256x56_S1x256x56⟩] := by
  sl_kernel_rfl

/-- A later point's store into the rotary keys. -/
theorem run5_B (hc0 : ¬cond0_0 i) :
    (kernelRun0_B c i arg1 harg1 arg2 harg2 arg3 harg3 arg4 harg4 arg5 harg5 arg6 harg6 arg7 harg7 arg8 harg8 arg9 harg9 hc0 x0 x1 x2 x3 xs0).2.1
      = [⟨Rect.unit (s := S1x256x64) ![0, 0, 0] S1x256x64.size inb_S1x256x64_S1x256x64_0_0_0, kpeB (acc (ldX arg1 harg1 x0) (ldW arg9 harg9 xs0) 27)⟩] := by
  sl_kernel_rfl

/-- A later point's store into the latents. -/
theorem run4_B (hc0 : ¬cond0_0 i) :
    (kernelRun0_B c i arg1 harg1 arg2 harg2 arg3 harg3 arg4 harg4 arg5 harg5 arg6 harg6 arg7 harg7 arg8 harg8 arg9 harg9 hc0 x0 x1 x2 x3 xs0).1
      = [⟨Rect.unit (s := S256x512) ![0, 0] S256x512.size inb_S256x512_S256x512_0_0, cnB (acc (ldX arg1 harg1 x0) (ldW arg9 harg9 xs0) 27)
        (View.readAt (Elt F) arg4.view (Rect.unit (s := S512x256) ![0, 0] S512x256.size inb_S512x256_S512x256_0_0).toLoadRect (harg4.unread x3))⟩] := by
  sl_kernel_rfl

/-- The loads of the scaled weights at the first point, from the stores before them. -/
def ldC (L : List (View.Piece (Elt F) S576x7168 .bf16)) (c : ℕ) : Vec F S576x256 .bf16 :=
  arg9.view.readCov L (Rect.unit (s := S576x7168) ![0, 256 * (c % 28)] S576x256.size (inbW c)).toLoadRect

/-- The first point's stores into the codes. -/
theorem run6_A (hc0 : cond0_0 i) :
    (kernelRun0_A c i arg1 harg1 arg2 harg2 arg3 harg3 arg4 harg4 arg5 harg5 arg6 harg6 arg7 harg7 arg8 harg8 arg9 harg9 hc0 x0 x1 x2 x3).2.2.1
      = codesP (ldX arg1 harg1 x0) 56 := by
  sl_kernel_rfl

/-- The first point's store into the scales. -/
theorem run7_A (hc0 : cond0_0 i) :
    (kernelRun0_A c i arg1 harg1 arg2 harg2 arg3 harg3 arg4 harg4 arg5 harg5 arg6 harg6 arg7 harg7 arg8 harg8 arg9 harg9 hc0 x0 x1 x2 x3).2.2.2.1
      = [⟨Rect.unit (s := S1x256x56) ![0, 0, 0] S1x256x56.size inb_S1x256x56_S1x256x56_0_0_0, shapeCast S1x256x56 (xsB (ldX arg1 harg1 x0)) shapeCasts_S256x56_S1x256x56⟩] := by
  sl_kernel_rfl

/-- The first point's store into the rotary keys. -/
theorem run5_A (hc0 : cond0_0 i) :
    (kernelRun0_A c i arg1 harg1 arg2 harg2 arg3 harg3 arg4 harg4 arg5 harg5 arg6 harg6 arg7 harg7 arg8 harg8 arg9 harg9 hc0 x0 x1 x2 x3).2.1
      = [⟨Rect.unit (s := S1x256x64) ![0, 0, 0] S1x256x64.size inb_S1x256x64_S1x256x64_0_0_0, kpeB (acc (ldX arg1 harg1 x0) (ldC arg9 (kernelRun0_A c i arg1 harg1 arg2 harg2 arg3 harg3 arg4 harg4 arg5 harg5 arg6 harg6 arg7 harg7 arg8 harg8 arg9 harg9 hc0 x0 x1 x2 x3).2.2.2.2.1) 27)⟩] := by
  sl_kernel_rfl

/-- The first point's store into the latents. -/
theorem run4_A (hc0 : cond0_0 i) :
    (kernelRun0_A c i arg1 harg1 arg2 harg2 arg3 harg3 arg4 harg4 arg5 harg5 arg6 harg6 arg7 harg7 arg8 harg8 arg9 harg9 hc0 x0 x1 x2 x3).1
      = [⟨Rect.unit (s := S256x512) ![0, 0] S256x512.size inb_S256x512_S256x512_0_0, cnB (acc (ldX arg1 harg1 x0) (ldC arg9 (kernelRun0_A c i arg1 harg1 arg2 harg2 arg3 harg3 arg4 harg4 arg5 harg5 arg6 harg6 arg7 harg7 arg8 harg8 arg9 harg9 hc0 x0 x1 x2 x3).2.2.2.2.1) 27)
        (View.readAt (Elt F) arg4.view (Rect.unit (s := S512x256) ![0, 0] S512x256.size inb_S512x256_S512x256_0_0).toLoadRect (harg4.unread x3))⟩] := by
  sl_kernel_rfl

/-- The first point's stores into its scratch. -/
theorem runS_A (hc0 : cond0_0 i) :
    (kernelRun0_A c i arg1 harg1 arg2 harg2 arg3 harg3 arg4 harg4 arg5 harg5 arg6 harg6 arg7 harg7 arg8 harg8 arg9 harg9 hc0 x0 x1 x2 x3).2.2.2.2.1
      = scrP (fun o k => View.readAt (Elt F) arg3.view (Rect.unit (s := S5x56) ![o % 5, k % 56] S1x1.size (inbV o k)).toLoadRect (harg3.unread x2) (Shape.Idx.first (s := S1x1) (by decide)))
        (fun o k => View.readAt (Elt F) arg2.view (Rect.unit (s := S576x7168) ![128 * (o % 4), 128 * (k % 56)] S128x128.size (inbS o k)).toLoadRect (harg2.unread x1))
        (fun k => View.readAt (Elt F) arg2.view (Rect.unit (s := S576x7168) ![512, 128 * (k % 56)] S64x128.size (inbL k)).toLoadRect (harg2.unread x1)) 56 := by
  sl_kernel_rfl

/-! ## As values -/

theorem ldX_eq : ldX arg1 harg1 x0 = chunkX x0 := by
  funext c; unfold ldX chunkX; rw [View.readAt_eq_ld, harg1.read_unread]

theorem ldW_eq : ldW arg9 harg9 xs0 = chunkW xs0 := by
  funext c; unfold ldW chunkW; rw [View.readAt_eq_ld, harg9.read_unread]

theorem ldC_eq (L : List (View.Piece (Elt F) S576x7168 .bf16)) : ldC arg9 L = chunkW (View.canon L) := by
  funext c; unfold ldC chunkW; rw [View.readCov_eq_canon']

theorem ldG_eq : View.readAt (Elt F) arg4.view (Rect.unit (s := S512x256) ![0, 0] S512x256.size inb_S512x256_S512x256_0_0).toLoadRect (harg4.unread x3) = x3 := by
  rw [View.readAt_eq_ld, harg4.read_unread]
  exact View.ld_unit_zero (by funext a; fin_cases a <;> rfl) _ _

/-- The first point's scratch stores, as one array. -/
theorem canonS_A (hc0 : cond0_0 i) :
    View.canon (kernelRun0_A c i arg1 harg1 arg2 harg2 arg3 harg3 arg4 harg4 arg5 harg5 arg6 harg6 arg7 harg7 arg8 harg8 arg9 harg9 hc0 x0 x1 x2 x3).2.2.2.2.1 = scr x1 x2 := by
  rw [runS_A]
  unfold scr
  congr 2
  · funext o k; unfold blkS; rw [View.readAt_eq_ld, harg3.read_unread]
  · funext o k; unfold blkB; rw [View.readAt_eq_ld, harg2.read_unread]
  · funext k; unfold blkL; rw [View.readAt_eq_ld, harg2.read_unread]

/-- The first point leaves the scaled weights in its scratch. -/
theorem sout_A (hc0 : cond0_0 i) : sout0_A_0 c i arg1 harg1 arg2 harg2 arg3 harg3 arg4 harg4 arg5 harg5 arg6 harg6 arg7 harg7 arg8 harg8 arg9 harg9 hc0 x0 x1 x2 x3 = scr x1 x2 := by
  unfold sout0_A_0
  rw [View.read_writes_junk_eq_canon, canonS_A]

/-- A later point's codes. -/
theorem out6_B (hc0 : ¬cond0_0 i) : out0_B_6 c i arg1 harg1 arg2 harg2 arg3 harg3 arg4 harg4 arg5 harg5 arg6 harg6 arg7 harg7 arg8 harg8 arg9 harg9 hc0 x0 x1 x2 x3 xs0 = View.canon (codesP (chunkX x0) 56) := by
  unfold out0_B_6
  rw [View.read_writes_junk_eq_canon, run6_B, ldX_eq]

/-- A later point's scales. -/
theorem out7_B (hc0 : ¬cond0_0 i) : out0_B_7 c i arg1 harg1 arg2 harg2 arg3 harg3 arg4 harg4 arg5 harg5 arg6 harg6 arg7 harg7 arg8 harg8 arg9 harg9 hc0 x0 x1 x2 x3 xs0 = shapeCast S1x256x56 (xsB (chunkX x0)) shapeCasts_S256x56_S1x256x56 := by
  unfold out0_B_7
  rw [View.read_writes_junk_eq_canon, run7_B, ldX_eq]
  exact View.canon_unit_zero (by funext a; fin_cases a <;> rfl) _ _

/-- A later point's rotary keys. -/
theorem out5_B (hc0 : ¬cond0_0 i) : out0_B_5 c i arg1 harg1 arg2 harg2 arg3 harg3 arg4 harg4 arg5 harg5 arg6 harg6 arg7 harg7 arg8 harg8 arg9 harg9 hc0 x0 x1 x2 x3 xs0 = kpeB (acc (chunkX x0) (chunkW xs0) 27) := by
  unfold out0_B_5
  rw [View.read_writes_junk_eq_canon, run5_B, ldX_eq, ldW_eq]
  exact View.canon_unit_zero (by funext a; fin_cases a <;> rfl) _ _

/-- A later point's latents. -/
theorem out4_B (hc0 : ¬cond0_0 i) : out0_B_4 c i arg1 harg1 arg2 harg2 arg3 harg3 arg4 harg4 arg5 harg5 arg6 harg6 arg7 harg7 arg8 harg8 arg9 harg9 hc0 x0 x1 x2 x3 xs0 = cnB (acc (chunkX x0) (chunkW xs0) 27) x3 := by
  unfold out0_B_4
  rw [View.read_writes_junk_eq_canon, run4_B, ldX_eq, ldW_eq, ldG_eq]
  exact View.canon_unit_zero (by funext a; fin_cases a <;> rfl) _ _

/-- The first point's codes. -/
theorem out6_A (hc0 : cond0_0 i) : out0_A_6 c i arg1 harg1 arg2 harg2 arg3 harg3 arg4 harg4 arg5 harg5 arg6 harg6 arg7 harg7 arg8 harg8 arg9 harg9 hc0 x0 x1 x2 x3 = View.canon (codesP (chunkX x0) 56) := by
  unfold out0_A_6
  rw [View.read_writes_junk_eq_canon, run6_A, ldX_eq]

/-- The first point's scales. -/
theorem out7_A (hc0 : cond0_0 i) : out0_A_7 c i arg1 harg1 arg2 harg2 arg3 harg3 arg4 harg4 arg5 harg5 arg6 harg6 arg7 harg7 arg8 harg8 arg9 harg9 hc0 x0 x1 x2 x3 = shapeCast S1x256x56 (xsB (chunkX x0)) shapeCasts_S256x56_S1x256x56 := by
  unfold out0_A_7
  rw [View.read_writes_junk_eq_canon, run7_A, ldX_eq]
  exact View.canon_unit_zero (by funext a; fin_cases a <;> rfl) _ _

/-- The first point's rotary keys. -/
theorem out5_A (hc0 : cond0_0 i) : out0_A_5 c i arg1 harg1 arg2 harg2 arg3 harg3 arg4 harg4 arg5 harg5 arg6 harg6 arg7 harg7 arg8 harg8 arg9 harg9 hc0 x0 x1 x2 x3 = kpeB (acc (chunkX x0) (chunkW (scr x1 x2)) 27) := by
  unfold out0_A_5
  rw [View.read_writes_junk_eq_canon, run5_A, ldX_eq, ldC_eq, canonS_A]
  exact View.canon_unit_zero (by funext a; fin_cases a <;> rfl) _ _

/-- The first point's latents. -/
theorem out4_A (hc0 : cond0_0 i) : out0_A_4 c i arg1 harg1 arg2 harg2 arg3 harg3 arg4 harg4 arg5 harg5 arg6 harg6 arg7 harg7 arg8 harg8 arg9 harg9 hc0 x0 x1 x2 x3 = cnB (acc (chunkX x0) (chunkW (scr x1 x2)) 27) x3 := by
  unfold out0_A_4
  rw [View.read_writes_junk_eq_canon, run4_A, ldX_eq, ldC_eq, canonS_A, ldG_eq]
  exact View.canon_unit_zero (by funext a; fin_cases a <;> rfl) _ _

end Cert.KernelIdeal.Block
-- ==== Proof.Points.lean ====
/-
  The kernel's four results, element by element: each is the block function of `Block.lean` at the rows of the point
  that writes the element, over the scaled weights that every point finds in the scratch.
-/
module

public import proofs.«01_k».proof.Proof.Gen.KernelIdeal.Value
public import proofs.«01_k».proof.Proof.Open

@[expose] public section

noncomputable section

namespace Cert.KernelIdeal.Points

open Idealize.ShloMosaic Idealize.ShloMosaic.TcCoe Cert.KernelIdeal Cert.KernelIdeal.Gen Cert.KernelIdeal.Value Cert.KernelIdeal.Block

variable {F : FTy → Type} [FloatOps F] [Named F]
variable (m : (ℓ : Loc nD τ sig) → Buf (Elt F) ℓ)

/-- The weights, as the region finds them. -/
def w0 (c : Dev nD) : Vec F S576x7168 .fp8e4m3 := V m c main_arg1
/-- The weights' scales, as the region finds them. -/
def v0 (c : Dev nD) : Vec F S5x56 .f32 := V m c main_arg2
/-- The norm's weights, a column repeated, as the region finds them. -/
def g0 (c : Dev nD) : Vec F S512x256 .f32 := V m c main_v3
/-- The rows, as the region finds them. -/
def x0 (c : Dev nD) : Vec F S18432x7168 .bf16 := V m c main_v0
/-- The rows of point `t`. -/
def xb (c : Dev nD) (t : Fin cfg0.N) : Vec F S256x7168 .bf16 := iblk m c 0 t

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

/-- Every point stages the whole weights. -/
theorem iblk1 (c : Dev nD) (t : Fin cfg0.N) : iblk m c 1 t = w0 m c := by
  obtain ⟨e0, e1⟩ := idx1 t
  funext y
  show V m c main_arg1 (((cfg0.win 1).blk t).view.emb y) = V m c main_arg1 y
  congr 1; funext a; apply Fin.ext
  match a with
  | ⟨0, _⟩ => show win0_1.index t (0 : Fin 2) * 576 + 1 * (y 0).val = (y 0).val; rw [e0]; omega
  | ⟨1, _⟩ => show win0_1.index t (1 : Fin 2) * 7168 + 1 * (y 1).val = (y 1).val; rw [e1]; omega

/-- Every point stages the whole scales. -/
theorem iblk2 (c : Dev nD) (t : Fin cfg0.N) : iblk m c 2 t = v0 m c := by
  obtain ⟨e0, e1⟩ := idx2 t
  funext y
  show V m c main_arg2 (((cfg0.win 2).blk t).view.emb y) = V m c main_arg2 y
  congr 1; funext a; apply Fin.ext
  match a with
  | ⟨0, _⟩ => show win0_2.index t (0 : Fin 2) * 5 + 1 * (y 0).val = (y 0).val; rw [e0]; omega
  | ⟨1, _⟩ => show win0_2.index t (1 : Fin 2) * 56 + 1 * (y 1).val = (y 1).val; rw [e1]; omega

/-- Every point stages the whole norm weights. -/
theorem iblk3 (c : Dev nD) (t : Fin cfg0.N) : iblk m c 3 t = g0 m c := by
  obtain ⟨e0, e1⟩ := idx3 t
  funext y
  show V m c main_v3 (((cfg0.win 3).blk t).view.emb y) = V m c main_v3 y
  congr 1; funext a; apply Fin.ext
  match a with
  | ⟨0, _⟩ => show win0_3.index t (0 : Fin 2) * 512 + 1 * (y 0).val = (y 0).val; rw [e0]; omega
  | ⟨1, _⟩ => show win0_3.index t (1 : Fin 2) * 256 + 1 * (y 1).val = (y 1).val; rw [e1]; omega

/-- Point `t` stages its 256 rows. -/
theorem xb_apply (c : Dev nD) (t : Fin cfg0.N) (y : S256x7168.Idx) (i : S18432x7168.Idx)
    (h0 : (i 0).val = t.val * 256 + (y 0).val) (h1 : (i 1).val = (y 1).val) : xb m c t y = x0 m c i := by
  obtain ⟨e0, e1⟩ := idx0 t
  show V m c main_v0 (((cfg0.win 0).blk t).view.emb y) = V m c main_v0 i
  congr 1; funext a; apply Fin.ext
  match a with
  | ⟨0, _⟩ => show win0_0.index t (0 : Fin 2) * 256 + 1 * (y 0).val = (i 0).val; rw [e0, h0]; omega
  | ⟨1, _⟩ => show win0_0.index t (1 : Fin 2) * 7168 + 1 * (y 1).val = (i 1).val; rw [e1, h1]; omega

/-- What a point computes from its rows. -/
def outB (x : Vec F S256x7168 .bf16) (s : Vec F S576x7168 .bf16) (g : Vec F S512x256 .f32) :
    Vec F S256x512 .bf16 × Vec F S1x256x64 .bf16 × Vec F S256x7168 .fp8e4m3 × Vec F S1x256x56 .f32 × Vec F S576x7168 .bf16 :=
  (cnB (acc (chunkX x) (chunkW s) 27) g, kpeB (acc (chunkX x) (chunkW s) 27), View.canon (codesP (chunkX x) 56),
    shapeCast S1x256x56 (xsB (chunkX x)) shapeCasts_S256x56_S1x256x56, s)

/-- Every point leaves its rows' results and the scaled weights. -/
theorem outs_eq (c : Dev nD) (n : ℕ) (hn : n < cfg0.N) :
    outsAt0 m c n hn = outB (xb m c ⟨n, hn⟩) (scr (w0 m c) (v0 m c)) (g0 m c) := by
  have hN : cfg0.N = 72 := N_0
  induction n with
  | zero =>
    rw [outsAt0_A m c ⟨0, hn⟩ (Nat.zero_mod _)]
    rw [out4_A, out5_A, out6_A, out7_A, sout_A, iblk1, iblk2, iblk3]
    rfl
  | succ n ih =>
    have h0 : ¬(n + 1) % 72 = 0 := by omega
    rw [outsAt0_B m c ⟨n + 1, hn⟩ h0]
    rw [out4_B, out5_B, out6_B, out7_B, iblk3]
    have e := ih (Nat.lt_of_succ_lt hn)
    have e5 : (outsAt0 m c n (Nat.lt_of_succ_lt hn)).2.2.2.2 = scr (w0 m c) (v0 m c) := by rw [e]; rfl
    unfold sout0_B_0
    show (_, _, _, _, (outsAt0 m c n (Nat.lt_of_succ_lt hn)).2.2.2.2) = _
    simp only [Nat.add_sub_cancel, e5]
    rfl

end Cert.KernelIdeal.Points

end
-- ==== Proof.Quant.lean ====
/-
  The quantiser's arithmetic over the extended reals, element by element: the kernel's chain of powers of two against
  the exponent the mathematics states. No program appears here.
-/
module

public import Idealize.ShloMosaic.Lib.Claim
public import Idealize.ShloMosaic.PureOps.Ideal

@[expose] public section

noncomputable section

namespace Cert.Quant

open Idealize.ShloMosaic

/-- `floor(log v / log 2)`, as both programs write the exponent of `v`. -/
def flog (v : EReal) : EReal := Ideal.liftRound Int.floor (Ideal.div (Ideal.log v) ((Real.log 2 : ℝ) : EReal))

/-- The kernel's power of two for a block whose largest magnitude is `m`. -/
def kT (m : EReal) : EReal :=
  Ideal.exp2 (flog (max (m + Ideal.exp2 (flog m - ((2 : ℝ) : EReal))) ((2 ^ (-118 : ℤ) : ℝ) : EReal)))

/-- The exponent word of the mathematics: `clip(floor(log2(m / 448)) + 127, 0, 255)`. -/
def rEx (m : EReal) : BitVec 32 :=
  Ideal.fptosi 32 (min ((255 : ℝ) : EReal) (max 0 (flog (m * ((1 / 448 : ℝ) : EReal)) + ((127 : ℝ) : EReal))))

/-- The binary exponent of a real. -/
def lg (r : ℝ) : ℤ := ⌊Real.log r / Real.log 2⌋

/-- A power of two is at most a positive real exactly when its exponent is at most the real's. -/
theorem zpow_le_iff {r : ℝ} (h : 0 < r) (k : ℤ) : (2 : ℝ) ^ k ≤ r ↔ k ≤ lg r := by
  have hl : 0 < Real.log 2 := Real.log_pos (by norm_num)
  unfold lg
  rw [Int.le_floor, le_div_iff₀ hl, ← Real.log_zpow, Real.log_le_log_iff (by positivity) h]

/-- A positive real is below a power of two exactly when its exponent is below the power's. -/
theorem lt_zpow_iff {r : ℝ} (h : 0 < r) (k : ℤ) : r < (2 : ℝ) ^ k ↔ lg r < k := by
  rw [← not_le, zpow_le_iff h, not_le]

/-- Bounds by consecutive powers of two fix the exponent. -/
theorem lg_eq {k : ℤ} {x : ℝ} (ha : (2 : ℝ) ^ k ≤ x) (hb : x < 2 ^ (k + 1)) : lg x = k := by
  have hx : 0 < x := lt_of_lt_of_le (by positivity) ha
  have h1 := (zpow_le_iff hx k).1 ha
  have h2 := (lt_zpow_iff hx (k + 1)).1 hb
  omega

/-- The exponent of a power of two. -/
theorem lg_zpow (k : ℤ) : lg ((2 : ℝ) ^ k) = k :=
  lg_eq le_rfl (zpow_lt_zpow_right₀ (by norm_num) (by omega))

/-- The floor of the base-two logarithm of a positive real is its binary exponent. -/
theorem flog_coe {r : ℝ} (h : 0 < r) : flog (r : EReal) = ((lg r : ℝ) : EReal) := by
  have hl : Real.log 2 ≠ 0 := (Real.log_pos (by norm_num)).ne'
  have hd : Ideal.div ((Real.log r : ℝ) : EReal) ((Real.log 2 : ℝ) : EReal) = ((Real.log r / Real.log 2 : ℝ) : EReal) := by
    unfold Ideal.div
    rw [if_neg (by exact_mod_cast hl), div_eq_mul_inv, EReal.coe_mul, EReal.coe_inv]
  have hlog : Ideal.log (r : EReal) = ((Real.log r : ℝ) : EReal) := by
    show (if r ≤ 0 then (⊥ : EReal) else (Real.log r : EReal)) = _
    rw [if_neg (not_le.2 h)]
  unfold flog
  rw [hlog, hd]
  rfl

/-- The logarithm of zero is the bottom element, and stays so. -/
theorem flog_zero : flog 0 = ⊥ := by
  have hl : 0 < Real.log 2 := Real.log_pos (by norm_num)
  have h0 : Ideal.log 0 = ⊥ := by
    show (if (0 : ℝ) ≤ 0 then (⊥ : EReal) else _) = _
    rw [if_pos le_rfl]
  unfold flog Ideal.div
  rw [h0, if_neg (by exact_mod_cast hl.ne'), ← EReal.coe_inv, EReal.bot_mul_coe_of_pos (by positivity)]
  rfl

/-- Two to an integer power. -/
theorem exp2_int (k : ℤ) : Ideal.exp2 ((k : ℝ) : EReal) = ((2 ^ k : ℝ) : EReal) := by
  show ((Real.rpow 2 (k : ℝ) : ℝ) : EReal) = _
  congr 1
  exact Real.rpow_intCast 2 k

theorem exp2_bot : Ideal.exp2 ⊥ = 0 := rfl

/-- The binary exponent of `m / 448` is nine less than that of `m + 2^(e-2)`, `e` the exponent of `m`: the mantissa
    passes 7/4 in both. -/
theorem log_up {m : ℝ} (h : 0 < m) :
    lg (m + 2 ^ (lg m - 2 : ℤ)) = lg (m * (1 / 448)) + 9 := by
  set e := lg m with he
  have h1 : (2 : ℝ) ^ e ≤ m := (zpow_le_iff h e).2 le_rfl
  have h2 : m < (2 : ℝ) ^ (e + 1) := (lt_zpow_iff h _).2 (by omega)
  have hp : (0 : ℝ) < 2 ^ e := by positivity
  have e1 : (2 : ℝ) ^ (e + 1) = 2 * 2 ^ e := by rw [zpow_add₀ (by norm_num)]; ring
  have e2 : (2 : ℝ) ^ (e - 2) = 2 ^ e / 4 := by rw [zpow_sub₀ (by norm_num)]; norm_num
  have e8 : (2 : ℝ) ^ (e - 8) = 2 ^ e / 256 := by rw [zpow_sub₀ (by norm_num)]; norm_num
  have e7 : (2 : ℝ) ^ (e - 7) = 2 ^ e / 128 := by rw [zpow_sub₀ (by norm_num)]; norm_num
  have e9 : (2 : ℝ) ^ (e - 9) = 2 ^ e / 512 := by rw [zpow_sub₀ (by norm_num)]; norm_num
  have e22 : (2 : ℝ) ^ (e + 2) = 4 * 2 ^ e := by rw [zpow_add₀ (by norm_num)]; ring
  rcases lt_or_ge m (7 / 4 * 2 ^ e) with hm | hm
  · rw [lg_eq (k := e) (x := m + 2 ^ (e - 2)) (by rw [e2]; linarith) (by rw [e1, e2]; linarith),
      lg_eq (k := e - 9) (x := m * (1 / 448)) (by rw [e9]; linarith) (by rw [show e - 9 + 1 = e - 8 by ring, e8]; linarith)]
    ring
  · rw [lg_eq (k := e + 1) (x := m + 2 ^ (e - 2)) (by rw [e1, e2]; linarith)
        (by rw [show e + 1 + 1 = e + 2 by ring, e22, e2]; linarith),
      lg_eq (k := e - 8) (x := m * (1 / 448)) (by rw [e8]; linarith) (by rw [show e - 8 + 1 = e - 7 by ring, e7]; linarith)]
    ring

/-- The exponent of a maximum with a power of two. -/
theorem log_max {x : ℝ} (h : 0 < x) (k : ℤ) : lg (max x (2 ^ k)) = max (lg x) k := by
  have hk : lg ((2 : ℝ) ^ k) = k := lg_zpow k
  rcases le_total x (2 ^ k) with hx | hx
  · rw [max_eq_right hx, hk, max_eq_right]
    rw [← Int.lt_add_one_iff, ← lt_zpow_iff h]; exact lt_of_le_of_lt hx (zpow_lt_zpow_right₀ (by norm_num) (by omega))
  · rw [max_eq_left hx, max_eq_left]
    exact (zpow_le_iff h k).1 hx

theorem coe_max' (a b : ℝ) : max (a : EReal) (b : EReal) = ((max a b : ℝ) : EReal) :=
  (EReal.coe_strictMono.monotone.map_max (a := a) (b := b)).symm

theorem coe_min' (a b : ℝ) : min (a : EReal) (b : EReal) = ((min a b : ℝ) : EReal) :=
  (EReal.coe_strictMono.monotone.map_min (a := a) (b := b)).symm

/-- The kernel's power of two for a positive magnitude. -/
theorem kT_pos {m : ℝ} (h : 0 < m) :
    kT (m : EReal) = ((2 ^ (max (lg (m * (1 / 448)) + 9) (-118)) : ℝ) : EReal) := by
  unfold kT
  rw [flog_coe h, ← EReal.coe_sub,
    show ((lg m : ℝ) - 2 : ℝ) = ((lg m - 2 : ℤ) : ℝ) by push_cast; ring, exp2_int, ← EReal.coe_add, coe_max']
  have hpos : 0 < m + (2 : ℝ) ^ (lg m - 2) := by positivity
  rw [flog_coe (lt_max_of_lt_left hpos), log_max hpos, log_up h, exp2_int]

/-- The kernel's power of two for an all-zero block. -/
theorem kT_zero : kT 0 = ((2 ^ (-118 : ℤ) : ℝ) : EReal) := by
  unfold kT
  rw [flog_zero, EReal.bot_sub, exp2_bot, zero_add]
  have hp : (0 : ℝ) < 2 ^ (-118 : ℤ) := by positivity
  rw [max_eq_right (by exact_mod_cast hp.le), flog_coe hp,
    show lg ((2 : ℝ) ^ (-118 : ℤ)) = -118 from lg_zpow (-118), exp2_int]

/-- A single-precision pattern that is an exponent field alone denotes that power of two. -/
theorem ofBits_shl (n : ℕ) (h1 : 1 ≤ n) (h2 : n ≤ 254) :
    Ideal.ofBits .f32 ((BitVec.ofNat 32 n) <<< 23) = ((2 ^ ((n : ℤ) - 127) : ℝ) : EReal) := by
  have hall : ∀ n : Fin 255, (BitVec.ofNat 32 n.val <<< 23).extractLsb' 31 1 = 0#1
      ∧ ((BitVec.ofNat 32 n.val <<< 23).extractLsb' 23 8).toNat = n.val
      ∧ ((BitVec.ofNat 32 n.val <<< 23).extractLsb' 0 23).toNat = 0 := by decide +kernel
  obtain ⟨ha, hb, hc⟩ := hall ⟨n, by omega⟩
  generalize hw : (BitVec.ofNat 32 n <<< 23 : BitVec 32) = w at ha hb hc ⊢
  have key : Ideal.ieee 8 23 w = ((2 ^ ((n : ℤ) - 127) : ℝ) : EReal) := by
    unfold Ideal.ieee
    dsimp only
    rw [ha, hb, hc, if_neg (show ¬ n = 2 ^ 8 - 1 by omega), if_neg (show ¬ n = 0 by omega)]
    congr 1
    norm_num
    rw [show ((8388608 : ℝ)) = 2 ^ (23 : ℤ) by norm_num, ← zpow_add₀ (by norm_num)]
    congr 1
    ring
  exact key

/-- The exponent word of a positive magnitude in range. -/
theorem rEx_pos {m : ℝ} (h : 0 < m) (hM : m < 2 ^ (128 : ℤ)) :
    ∃ n : ℕ, n ≤ 247 ∧ (n : ℤ) = max (lg (m * (1 / 448)) + 127) 0 ∧ rEx (m : EReal) = BitVec.ofNat 32 n := by
  have hv : 0 < m * (1 / 448) := by positivity
  have hl : lg (m * (1 / 448)) < 120 := by
    refine (lt_zpow_iff hv _).1 ?_
    have : (2 : ℝ) ^ (128 : ℤ) = 2 ^ (120 : ℤ) * 256 := by norm_num
    rw [this] at hM
    have h120 : (0 : ℝ) < 2 ^ (120 : ℤ) := by positivity
    linarith
  set l := lg (m * (1 / 448)) with hldef
  refine ⟨(max (l + 127) 0).toNat, by omega, by omega, ?_⟩
  unfold rEx
  rw [← EReal.coe_mul, flog_coe hv, ← hldef, ← EReal.coe_add, show (0 : EReal) = ((0 : ℝ) : EReal) from rfl, coe_max', coe_min']
  have e1 : min (255 : ℝ) (max 0 ((l : ℝ) + 127)) = ((max (l + 127) 0 : ℤ) : ℝ) := by
    rw [max_comm]
    push_cast
    apply min_eq_right
    apply max_le _ (by norm_num)
    have : (l : ℝ) < 120 := by exact_mod_cast hl
    linarith
  rw [e1]
  unfold Ideal.fptosi
  show BitVec.ofInt 32 (max _ (min _ (if (0 : ℝ) ≤ ((max (l + 127) 0 : ℤ) : ℝ) then ⌊((max (l + 127) 0 : ℤ) : ℝ)⌋
    else ⌈((max (l + 127) 0 : ℤ) : ℝ)⌉))) = _
  rw [if_pos (by exact_mod_cast le_max_right _ _), Int.floor_intCast]
  rw [show max (-(2 ^ (32 - 1) : ℕ) : ℤ) (min ((2 ^ (32 - 1) : ℕ) - 1 : ℤ) (max (l + 127) 0)) = ((max (l + 127) 0).toNat : ℤ) by
    push_cast; omega]
  exact BitVec.ofInt_natCast 32 _

/-- The scale of the mathematics, off the all-zero block. -/
def rScale (m : EReal) : EReal := Ideal.ofBits .f32 ((rEx m + 1#32) <<< 23)
/-- The inverse scale of the mathematics, off the all-zero block. -/
def rInv (m : EReal) : EReal := Ideal.ofBits .f32 ((253#32 - rEx m) <<< 23)

/-- For a positive magnitude in range the kernel's scale is the scale of the mathematics, and a real number. -/
theorem scale_eq {m : ℝ} (h : 0 < m) (hM : m < 2 ^ (128 : ℤ)) :
    ∃ s : ℝ, 0 < s ∧ kT (m : EReal) * ((2 ^ (-8 : ℤ) : ℝ) : EReal) = (s : EReal) ∧ rScale (m : EReal) = (s : EReal)
      ∧ Ideal.div ((2 ^ (8 : ℤ) : ℝ) : EReal) (kT (m : EReal)) = ((s⁻¹ : ℝ) : EReal) ∧ rInv (m : EReal) = ((s⁻¹ : ℝ) : EReal) := by
  obtain ⟨n, hn, hnl, hex⟩ := rEx_pos h hM
  have hk := kT_pos h
  set l := lg (m * (1 / 448))
  have two : (2 : ℝ) ≠ 0 := by norm_num
  have hT : max (l + 9) (-118) = (n : ℤ) - 118 := by omega
  rw [hT] at hk
  refine ⟨2 ^ ((n : ℤ) - 126), by positivity, ?_, ?_, ?_, ?_⟩
  · rw [hk, ← EReal.coe_mul, ← zpow_add₀ two]; congr 2; ring
  · unfold rScale
    rw [hex, show BitVec.ofNat 32 n + 1#32 = BitVec.ofNat 32 (n + 1) from (BitVec.ofNat_add n 1).symm,
      ofBits_shl _ (by omega) (by omega)]
    congr 2; push_cast; ring
  · rw [hk]
    unfold Ideal.div
    rw [if_neg (by exact_mod_cast (by positivity : (2 : ℝ) ^ ((n : ℤ) - 118) ≠ 0)), ← EReal.coe_inv, ← EReal.coe_mul,
      ← zpow_neg, ← zpow_add₀ two, ← zpow_neg]
    congr 2; ring
  · unfold rInv
    have : 253#32 - BitVec.ofNat 32 n = BitVec.ofNat 32 (253 - n) := by
      apply BitVec.eq_of_toNat_eq
      simp only [BitVec.toNat_sub, BitVec.toNat_ofNat]
      omega
    rw [hex, this, ofBits_shl _ (by omega) (by omega), ← zpow_neg]
    congr 2; push_cast [show n ≤ 253 by omega]; ring

/-- The kernel's inverse scale on an all-zero block is a real number. -/
theorem inv_zero : ∃ r : ℝ, Ideal.div ((2 ^ (8 : ℤ) : ℝ) : EReal) (kT 0) = (r : EReal) := by
  rw [kT_zero]
  unfold Ideal.div
  rw [if_neg (by exact_mod_cast (by positivity : (2 : ℝ) ^ (-118 : ℤ) ≠ 0)), ← EReal.coe_inv, ← EReal.coe_mul]
  exact ⟨_, rfl⟩

end Cert.Quant
-- ==== Proof.Spec.lean ====
/-
  The quantised projection, element by element over the extended reals: the row blocks' largest magnitudes, the codes,
  the dequantised values, and the agreement of the kernel's spelling of the scale with the mathematics'.
-/
module

public import proofs.«01_k».proof.Proof.Quant

@[expose] public section

noncomputable section

namespace Cert.Spec

open Idealize.ShloMosaic Cert.Quant

/-! ## Constants -/

theorem of32 (b : BitVec 32) : Ideal.ofBits .f32 b = Ideal.ieee 8 23 b := rfl
theorem of16 (b : BitVec 16) : Ideal.ofBits .bf16 b = Ideal.ieee 8 7 b := rfl

theorem c_two : Ideal.ofBits .f32 0x40000000#32 = ((2 : ℝ) : EReal) := by
  rw [of32]; simp [Ideal.ieee, -EReal.coe_mul, -EReal.coe_pow, -EReal.coe_neg]; norm_num
theorem c_256 : Ideal.ofBits .bf16 0x4380#16 = ((2 ^ (8 : ℤ) : ℝ) : EReal) := by
  rw [of16]; simp [Ideal.ieee, -EReal.coe_mul, -EReal.coe_pow, -EReal.coe_neg]; norm_num
theorem c_inv256 : Ideal.ofBits .bf16 0x3B80#16 = ((2 ^ (-8 : ℤ) : ℝ) : EReal) := by
  rw [of16]; simp [Ideal.ieee, -EReal.coe_mul, -EReal.coe_pow, -EReal.coe_neg]; norm_num
theorem c_floor : Ideal.ofBits .bf16 0x0480#16 = ((2 ^ (-118 : ℤ) : ℝ) : EReal) := by
  rw [of16]; simp [Ideal.ieee, -EReal.coe_mul, -EReal.coe_pow, -EReal.coe_neg]; norm_num
theorem c_255 : Ideal.ofBits .f32 0x437F0000#32 = ((255 : ℝ) : EReal) := by
  rw [of32]; simp [Ideal.ieee, -EReal.coe_mul, -EReal.coe_pow, -EReal.coe_neg]; norm_num
theorem c_127 : Ideal.ofBits .f32 0x42FE0000#32 = ((127 : ℝ) : EReal) := by
  rw [of32]; simp [Ideal.ieee, -EReal.coe_mul, -EReal.coe_pow, -EReal.coe_neg]; norm_num
theorem c_448 : Ideal.ofBits .f32 0x43E00000#32 = ((448 : ℝ) : EReal) := by
  rw [of32]; simp [Ideal.ieee, -EReal.coe_mul, -EReal.coe_pow, -EReal.coe_neg]; norm_num
theorem c_neg448 : Ideal.ofBits .f32 0xC3E00000#32 = ((-448 : ℝ) : EReal) := by
  rw [of32]; simp [Ideal.ieee, -EReal.coe_mul, -EReal.coe_pow, -EReal.coe_neg]; norm_num
theorem c_512 : Ideal.ofBits .f32 0x44000000#32 = ((512 : ℝ) : EReal) := by
  rw [of32]; simp [Ideal.ieee, -EReal.coe_mul, -EReal.coe_pow, -EReal.coe_neg]; norm_num
theorem c_inv512 : Ideal.ofBits .f32 0x3B000000#32 = ((1 / 512 : ℝ) : EReal) := by
  rw [of32]; simp [Ideal.ieee, -EReal.coe_mul, -EReal.coe_pow, -EReal.coe_neg]; norm_num
theorem c_zero : Ideal.ofBits .f32 0x00000000#32 = 0 := by
  rw [of32]; simp [Ideal.ieee]
theorem c_bot : Ideal.ofBits .bf16 0xFF80#16 = ⊥ := by
  rw [of16]; simp [Ideal.ieee]
theorem c_bot32 : Ideal.ofBits .f32 0xFF800000#32 = ⊥ := by
  rw [of32]; simp [Ideal.ieee]
theorem c_maxb : Ideal.ofBits .bf16 0x7F7F#16 = ((255 * 2 ^ (120 : ℤ) : ℝ) : EReal) := by
  rw [of16]; simp [Ideal.ieee, -EReal.coe_mul, -EReal.coe_pow, -EReal.coe_neg]

/-- The value one, as both programs print it. -/
def one : EReal := Ideal.ofBits .f32 0x3F800000#32

/-! ## The quantiser -/

/-- The largest magnitude of a block of 128 values. -/
def amax (f : Fin 128 → EReal) : EReal := (Finset.univ : Finset (Fin 128)).fold max ⊥ fun l => max (f l) (-(f l))

/-- Clipping to the range of the codes. -/
def clip (v : EReal) : EReal := min ((448 : ℝ) : EReal) (max ((-448 : ℝ) : EReal) v)

/-- The scale of a block. -/
def scl (a : EReal) : EReal := if a = 0 then one else rScale a
/-- The inverse scale of a block. -/
def inv (a : EReal) : EReal := if a = 0 then one else rInv a
/-- The code of a value in a block whose largest magnitude is `a`. -/
def code (a v : EReal) : EReal := clip (v * inv a)
/-- The dequantised value. -/
def deq (a v : EReal) : EReal := code a v * scl a

/-- The kernel's code. -/
def codeK (a v : EReal) : EReal := clip (v * Ideal.div ((2 ^ (8 : ℤ) : ℝ) : EReal) (kT a))
/-- The kernel's dequantised value. -/
def deqK (a v : EReal) : EReal := codeK a v * (kT a * ((2 ^ (-8 : ℤ) : ℝ) : EReal))

theorem clip_zero : clip 0 = 0 := by
  unfold clip
  rw [max_eq_right (by exact_mod_cast (by norm_num : (-448 : ℝ) ≤ 0)), min_eq_right (by exact_mod_cast (by norm_num : (0 : ℝ) ≤ 448))]

/-- An element is at most the block's largest magnitude, in magnitude. -/
theorem le_amax (f : Fin 128 → EReal) (l : Fin 128) : max (f l) (-(f l)) ≤ amax f := by
  unfold amax
  rw [Finset.le_fold_max]
  exact .inr ⟨l, Finset.mem_univ _, le_rfl⟩

/-- The largest magnitude of a block is at most a bound of every element's magnitude. -/
theorem amax_le (f : Fin 128 → EReal) (b : EReal) (h : ∀ l, max (f l) (-(f l)) ≤ b) : amax f ≤ b := by
  unfold amax
  rw [Finset.fold_max_le]
  exact ⟨bot_le, fun l _ => h l⟩

/-- A magnitude is not negative. -/
theorem mag_nonneg (v : EReal) : 0 ≤ max v (-v) := by
  rcases le_total 0 v with h | h
  · exact le_max_of_le_left h
  · exact le_max_of_le_right (by simpa using EReal.neg_le_neg_iff.mpr h)

/-- On finite blocks the kernel's codes and dequantised values are the mathematics'. -/
theorem quant_eq (f : Fin 128 → EReal) (hf : ∀ l, max (f l) (-(f l)) ≤ Ideal.ofBits .bf16 0x7F7F#16) (l : Fin 128) :
    codeK (amax f) (f l) = code (amax f) (f l) ∧ deqK (amax f) (f l) = deq (amax f) (f l) := by
  have hle := le_amax f l
  have hb := amax_le f _ hf
  have h0 : 0 ≤ amax f := (mag_nonneg _).trans hle
  by_cases hz : amax f = 0
  · have hv : f l = 0 := by
      rw [hz] at hle
      have h1 := (le_max_left _ _).trans hle
      have h2 := (le_max_right _ _).trans hle
      refine le_antisymm h1 ?_
      have := EReal.neg_le_neg_iff.mpr h2
      simpa using this
    have c1 : codeK (amax f) (f l) = 0 := by unfold codeK; rw [hv, zero_mul, clip_zero]
    have c2 : code (amax f) (f l) = 0 := by unfold code; rw [hv, zero_mul, clip_zero]
    exact ⟨c1.trans c2.symm, by unfold deqK deq; rw [c1, c2, zero_mul, zero_mul]⟩
  · rw [c_maxb] at hb
    have hnt : amax f ≠ ⊤ := fun h => by rw [h] at hb; exact EReal.coe_ne_top _ (top_le_iff.mp hb)
    have hnb : amax f ≠ ⊥ := fun h => by rw [h] at h0; exact absurd h0 (by simp)
    obtain ⟨a, ha⟩ : ∃ a : ℝ, amax f = (a : EReal) := ⟨_, (EReal.coe_toReal hnt hnb).symm⟩
    rw [ha] at hz h0 hb ⊢
    have ha0 : 0 < a := lt_of_le_of_ne (by exact_mod_cast h0) (fun h => hz (by rw [← h]; rfl))
    have hb' : a ≤ 255 * 2 ^ (120 : ℤ) := by exact_mod_cast hb
    have hlt : a < 2 ^ (128 : ℤ) := lt_of_le_of_lt hb' (by norm_num)
    obtain ⟨s, hs, e1, e2, e3, e4⟩ := scale_eq ha0 hlt
    have hc : codeK (a : EReal) (f l) = code (a : EReal) (f l) := by
      unfold codeK code inv; rw [e3, if_neg hz, e4]
    exact ⟨hc, by unfold deqK deq scl; rw [hc, e1, if_neg hz, e2]⟩

end Cert.Spec

end
-- ==== Proof.Vals.lean ====
/-
  The kernel's block functions over the extended reals, element by element: the blocks are the rows' own entries, the
  codes and the dequantised values those of `Spec.lean`, the scaled weights the weights times their blocks' scales.
-/
module

public import proofs.«01_k».proof.Proof.Block
public import proofs.«01_k».proof.Proof.Spec
public import Idealize.ShloMosaic.Lib.Pipeline.ValueKit.Tiles
public import Idealize.ShloMosaic.Lib.Bf16Pair
public import Idealize.ShloMosaic.PureOps.Ideal.Laws
public import Idealize.ShloMosaic.Lib.Pointwise.ShapeOpsCore
public import Idealize.ShloMosaic.Lib.ValueIdx
public import Idealize.ShloMosaic.PureOps.IdealRules

@[expose] public section

noncomputable section

namespace Cert.KernelIdeal.Vals

open Idealize.ShloMosaic hiding ix1 ix2 ix3
open Idealize.ShloMosaic.ValueIdx Cert.KernelIdeal Cert.KernelIdeal.Gen Cert.KernelIdeal.Block
open Cert.Quant Cert.Spec

/-- Column `l` of block `k`. -/
def col (k : Fin 56) (l : Fin 128) : Fin 7168 := ⟨128 * k.val + l.val, by omega⟩

/-- Row `r` of the rows, block `k`. -/
def rb {n : ℕ} (x : (⟨2, ![n, 7168]⟩ : Shape).Idx → EReal) (r : Fin n) (k : Fin 56) : Fin 128 → EReal := fun l => x (ix2 r (col k l))

variable (x : Vec Ideal S256x7168 .bf16)

/-- A block taken apart by the parity of its rows and put back is the block. -/
theorem blk_apply (k : Fin 56) (r : Fin 256) (l : Fin 128) : blk (chunkX x) k.val (ix2 r l) = x (ix2 r (col k l)) := by
  unfold blk
  have h2 : 128 * (k.val % 2) + l.val < 256 := by omega
  rw [interleaveRows_slice_rowsOfParity_apply (s := S256x256) (t := S128x256) (t' := S128x128) (s' := S256x128) _ _ _ rfl _ (ix2 r l) (ix2 r ⟨128 * (k.val % 2) + l.val, h2⟩ : S256x256.Idx) (by
    intro a; match a with
    | ⟨0, _⟩ => show r.val = 2 * 0 + r.val; omega
    | ⟨1, _⟩ => rfl)]
  rw [shapeCast_apply _ _ _ (ix2 r ⟨128 * (k.val % 2) + l.val, h2⟩) rfl]
  unfold chunkX
  rw [View.ld_apply]
  congr 1; funext a; apply Fin.ext
  match a with
  | ⟨0, _⟩ => show 0 + 1 * r.val = r.val; omega
  | ⟨1, _⟩ => show 256 * (k.val / 2 % 28) + 1 * (128 * (k.val % 2) + l.val) = 128 * k.val + l.val; omega

/-- The largest magnitude of a row of a block, at every lane. -/
theorem mx_apply (v : FVec Ideal S256x128 .bf16) (r : Fin 256) (l : Fin 128) :
    mx v (ix2 r l) = amax fun l => v (ix2 r l) := by
  unfold mx
  rw [broadcastTo_apply _ _ _ (ix2 r (0 : Fin 1)) (by
    intro a; match a with
    | ⟨0, _⟩ => rfl
    | ⟨1, _⟩ => rfl)]
  rw [shapeCast_apply _ _ _ (ix2 r (0 : Fin 1)) rfl,
    shapeCast_apply _ _ _ (ix1 r) (by rw [Shape.rowMajor_val_one, Shape.rowMajor_val_two]; show r.val = r.val * 1 + 0; omega)]
  refine (Ideal.multiReduction_maximumf_single _ _ _ _ _ _).trans ?_
  unfold amax
  rw [← c_bot]
  refine Finset.fold_congr fun l _ => ?_
  have e : reduces_S256x128_S256.lift (ix1 r) l = ix2 r l := by
    funext a; match a with
    | ⟨0, _⟩ => apply Fin.ext; rfl
    | ⟨1, _⟩ => apply Fin.ext; rfl
  show max (v (reduces_S256x128_S256.lift (ix1 r) l)) (-(v (reduces_S256x128_S256.lift (ix1 r) l))) = _
  rw [e]
  rfl

theorem mx_blk (k : Fin 56) (r : Fin 256) (l : Fin 128) : mx (blk (chunkX x) k.val) (ix2 r l) = amax (rb x r k) := by
  rw [mx_apply]; congr 1; funext l; rw [blk_apply]; rfl

theorem ln2 : (Named.named κ "ln2" 0x3F317218#32 : Ideal .f32) = ((Real.log 2 : ℝ) : EReal) :=
  Idealize.ShloMosaic.IdealRules.named_const.ideal_named_scalar _ _ _ _ rfl
theorem inv448 : (Named.named κ "inv448" 0x3B124925#32 : Ideal .f32) = ((1 / 448 : ℝ) : EReal) :=
  Idealize.ShloMosaic.IdealRules.named_const.ideal_named_scalar _ _ _ _ rfl

theorem flogV_apply (v : FVec Ideal S256x128 .bf16) (y : S256x128.Idx) : flogV v y = flog (v y) := by
  unfold flogV; rw [ln2]; rfl

/-- A 32-bit pattern of two equal halves, read as two rows of halves, is the half everywhere. -/
theorem splat_bits (y : S256x128.Idx) :
    bitcast S256x128 16 (broadcast S128x128 75498624#32) bitcasts_S128x128_w32_S256x128_w16 y = 0x0480#16 := by
  unfold bitcast broadcast
  dsimp only
  have hb : ∀ r q : ℕ, q < 16 → (r * 16 + q) % 32 = if r % 2 = 0 then q else 16 + q := by intro r q hq; split <;> omega
  generalize S256x128.row y = r
  have e : (List.finRange 16).foldl (fun (acc : BitVec 16) (q : Fin 16) =>
      if (75498624#32).getLsbD ((r * 16 + q.val) % 32) then acc ||| BitVec.twoPow 16 q.val else acc) 0 = 0x0480#16 := by
    simp only [hb _ _ (Fin.is_lt _)]
    split
    · decide
    · decide
  exact e

theorem floorC_apply (y : S256x128.Idx) : (floorC : FVec Ideal S256x128 .bf16) y = ((2 ^ (-118 : ℤ) : ℝ) : EReal) := by
  rw [← c_floor]
  unfold floorC
  show Ideal.ofBits .bf16 _ = _
  congr 1
  exact splat_bits y

/-- The kernel's power of two. -/
theorem pow_apply (v : FVec Ideal S256x128 .bf16) (y : S256x128.Idx) : pow v y = kT (v y) := by
  have h : pow v y = Ideal.exp2 (flog (max ((v y : EReal) + Ideal.exp2 (((flogV v : FVec Ideal S256x128 .f32) y : EReal) - (Ideal.ofBits .f32 0x40000000#32 : EReal)))
      ((floorC : FVec Ideal S256x128 .bf16) y : EReal))) := by
    unfold pow; exact (congrArg Ideal.exp2 (flogV_apply _ y)).trans rfl
  rw [h, flogV_apply, floorC_apply, c_two]; rfl

/-- The kernel's codes. -/
theorem codes_apply (k : Fin 56) (r : Fin 256) (l : Fin 128) :
    codes (chunkX x) k.val (ix2 r l) = codeK (amax (rb x r k)) (rb x r k l) := by
  have h : codes (chunkX x) k.val (ix2 r l) = min (Ideal.ofBits .f32 0x43E00000#32) (max (Ideal.ofBits .f32 0xC3E00000#32)
      (blk (chunkX x) k.val (ix2 r l) * Ideal.div (Ideal.ofBits .bf16 0x4380#16) (pow (mx (blk (chunkX x) k.val)) (ix2 r l)))) := rfl
  rw [h, c_448, c_neg448, c_256, pow_apply, mx_blk, blk_apply]; rfl

/-- The kernel's dequantised values. -/
theorem xq_apply (k : Fin 56) (r : Fin 256) (l : Fin 128) :
    xq (chunkX x) k.val (ix2 r l) = deqK (amax (rb x r k)) (rb x r k l) := by
  have h : xq (chunkX x) k.val (ix2 r l) = codes (chunkX x) k.val (ix2 r l)
      * (pow (mx (blk (chunkX x) k.val)) (ix2 r l) * Ideal.ofBits .bf16 0x3B80#16) := rfl
  rw [h, codes_apply, pow_apply, mx_blk, c_inv256]; rfl

/-- The codes' block is the codes, column block by column block. -/
theorem canon_codes (r : Fin 256) (k : Fin 56) (l : Fin 128) :
    View.canon (codesP (chunkX x) 56) (ix2 r (col k l)) = codes (chunkX x) k.val (ix2 r l) := by
  have key : ∀ n, n ≤ 56 → (∀ p ∈ codesP (chunkX x) n, ∃ j : ℕ, j < n ∧ p = ⟨Rect.unit (s := S256x7168) ![0, 128 * (j % 56)] S256x128.size (inbC j), codes (chunkX x) j⟩)
      ∧ ∀ j, j < n → (⟨Rect.unit (s := S256x7168) ![0, 128 * (j % 56)] S256x128.size (inbC j), codes (chunkX x) j⟩ : View.Piece (Elt Ideal) S256x7168 .fp8e4m3) ∈ codesP (chunkX x) n := by
    intro n
    induction n with
    | zero => intro _; exact ⟨fun p hp => absurd hp List.not_mem_nil, fun j hj => absurd hj (by omega)⟩
    | succ n ih =>
      intro hn
      obtain ⟨h1, h2⟩ := ih (by omega)
      refine ⟨fun p hp => ?_, fun j hj => ?_⟩
      · rcases List.mem_cons.mp hp with rfl | hp
        · exact ⟨n, by omega, rfl⟩
        · obtain ⟨j, hj, e⟩ := h1 p hp; exact ⟨j, by omega, e⟩
      · rcases Nat.lt_succ_iff_lt_or_eq.mp hj with hj | rfl
        · exact List.mem_cons_of_mem _ (h2 j hj)
        · exact List.mem_cons_self
  obtain ⟨h1, h2⟩ := key 56 le_rfl
  refine View.canon_eq_of_allAt _ _ _ ⟨_, h2 k.val k.isLt, ?_⟩ ?_
  · rw [Rect.mem_set_unit]
    intro a; match a with
    | ⟨0, _⟩ => exact ⟨Nat.zero_le _, by show r.val < 0 + 256; omega⟩
    | ⟨1, _⟩ => exact ⟨by show 128 * (k.val % 56) ≤ 128 * k.val + l.val; omega, by show 128 * k.val + l.val < 128 * (k.val % 56) + 128; omega⟩
  · intro p hp z hz
    obtain ⟨j, hj, rfl⟩ := h1 p hp
    have e0 : 0 + 1 * (z 0).val = r.val := congrArg Fin.val (congrFun hz 0)
    have e1 : 128 * (j % 56) + 1 * (z 1).val = 128 * k.val + l.val := congrArg Fin.val (congrFun hz 1)
    have hz1 : (z 1).val < 128 := (z 1).isLt
    obtain rfl : j = k.val := by omega
    show codes (chunkX x) k.val z = _
    congr 1
    funext a; apply Fin.ext
    match a with
    | ⟨0, _⟩ => show (z 0).val = r.val; omega
    | ⟨1, _⟩ => show (z 1).val = l.val; omega

end Cert.KernelIdeal.Vals

end
-- ==== Proof.Vals2.lean ====
/-
  The kernel's block results over the extended reals: the scaled weights, the product over all the columns, the scales,
  the normalised rows and the rotary rows, element by element.
-/
module

public import proofs.«01_k».proof.Proof.Vals
public import Idealize.ShloMosaic.Lib.ValueIdxCore

@[expose] public section

noncomputable section

namespace Cert.KernelIdeal.Vals

open Idealize.ShloMosaic hiding ix1 ix2 ix3
open Idealize.ShloMosaic.ValueIdx Cert.KernelIdeal Cert.KernelIdeal.Gen Cert.KernelIdeal.Block
open Cert.Quant Cert.Spec

variable (x : Vec Ideal S256x7168 .bf16)

/-! ## The scaled weights -/

/-- The scaled weights: each weight times its block's scale. -/
def wv (w : Vec Ideal S576x7168 .fp8e4m3) (v : Vec Ideal S5x56 .f32) (o : Fin 576) (j : Fin 7168) : EReal :=
  w (ix2 o j) * v (ix2 (⟨o.val / 128, by omega⟩ : Fin 5) (⟨j.val / 128, by omega⟩ : Fin 56))

theorem blkS_apply (v : Vec Ideal S5x56 .f32) (o k : ℕ) (ho : o < 5) (hk : k < 56) :
    blkS v o k = v (ix2 (⟨o, ho⟩ : Fin 5) (⟨k, hk⟩ : Fin 56)) := by
  unfold blkS
  rw [View.ld_apply]
  congr 1; funext a; apply Fin.ext
  match a with
  | ⟨0, _⟩ => show o % 5 + 1 * 0 = o; omega
  | ⟨1, _⟩ => show k % 56 + 1 * 0 = k; omega

/-- A piece of the scaled weights holds, at each of its places, the weight there times its block's scale. -/
def Good (w : Vec Ideal S576x7168 .fp8e4m3) (v : Vec Ideal S5x56 .f32) (p : View.Piece (Elt Ideal) S576x7168 .bf16) : Prop :=
  ∀ z (o : Fin 576) (j : Fin 7168), p.1.emb z = ix2 o j → p.2 z = wv w v o j

theorem good_B (w : Vec Ideal S576x7168 .fp8e4m3) (v : Vec Ideal S5x56 .f32) (o k : ℕ) (ho : o < 4) (hk : k < 56) :
    Good w v (pB (blkS v o k) (blkB w o k) o k) := by
  intro z q j hz
  have e0 : 128 * (o % 4) + 1 * (z 0).val = q.val := congrArg Fin.val (congrFun hz 0)
  have e1 : 128 * (k % 56) + 1 * (z 1).val = j.val := congrArg Fin.val (congrFun hz 1)
  have h0 : (z 0).val < 128 := (z 0).isLt
  have h1 : (z 1).val < 128 := (z 1).isLt
  show wB (blkS v o k) (blkB w o k) z = _
  unfold wB
  refine (shapeCast_apply _ _ _ (z : S128x128.Idx) rfl).trans ?_
  show blkB w o k z * blkS v o k = _
  rw [blkS_apply v o k (by omega) hk]
  unfold wv
  rw [← hz]
  show w _ * _ = w _ * _
  congr 2
  · funext a; match a with
    | ⟨0, _⟩ => apply Fin.ext; show o = q.val / 128; omega
    | ⟨1, _⟩ => apply Fin.ext; show k = j.val / 128; omega

theorem good_L (w : Vec Ideal S576x7168 .fp8e4m3) (v : Vec Ideal S5x56 .f32) (k : ℕ) (hk : k < 56) :
    Good w v (pL (blkS v 4 k) (blkL w k) k) := by
  intro z q j hz
  have e0 : 512 + 1 * (z 0).val = q.val := congrArg Fin.val (congrFun hz 0)
  have e1 : 128 * (k % 56) + 1 * (z 1).val = j.val := congrArg Fin.val (congrFun hz 1)
  have h0 : (z 0).val < 64 := (z 0).isLt
  have h1 : (z 1).val < 128 := (z 1).isLt
  show wL (blkS v 4 k) (blkL w k) z = _
  unfold wL
  refine (shapeCast_apply _ _ _ (z : S64x128.Idx) rfl).trans ?_
  show blkL w k z * blkS v 4 k = _
  rw [blkS_apply v 4 k (by omega) hk]
  unfold wv
  rw [← hz]
  show w _ * _ = w _ * _
  congr 2
  · funext a; match a with
    | ⟨0, _⟩ => apply Fin.ext; show 4 = q.val / 128; omega
    | ⟨1, _⟩ => apply Fin.ext; show k = j.val / 128; omega

/-- Every place of the first `n` columns of blocks is in one of the pieces, and every piece is good. -/
theorem scrP_key (w : Vec Ideal S576x7168 .fp8e4m3) (v : Vec Ideal S5x56 .f32) (n : ℕ) (hn : n ≤ 56) :
    (∀ p ∈ scrP (blkS v) (blkB w) (blkL w) n, Good w v p)
      ∧ ∀ (o : Fin 576) (j : Fin 7168), j.val < 128 * n → ∃ p ∈ scrP (blkS v) (blkB w) (blkL w) n, (ix2 o j : S576x7168.Idx) ∈ p.1.set := by
  induction n with
  | zero => exact ⟨fun p hp => absurd hp List.not_mem_nil, fun o j hj => absurd hj (by omega)⟩
  | succ n ih =>
    obtain ⟨h1, h2⟩ := ih (by omega)
    have hB : ∀ o : ℕ, o < 4 → ∀ (q : Fin 576) (j : Fin 7168), 128 * n ≤ j.val → j.val < 128 * (n + 1) → q.val / 128 = o →
        (ix2 q j : S576x7168.Idx) ∈ (pB (blkS v o n) (blkB w o n) o n).1.set := by
      intro o ho q j hj hj' hq
      refine (Rect.mem_set_unit (s := S576x7168) (inb := inbS o n)).mpr ?_
      intro a; match a with
      | ⟨0, _⟩ => exact ⟨by show 128 * (o % 4) ≤ q.val; omega, by show q.val < 128 * (o % 4) + 128; omega⟩
      | ⟨1, _⟩ => exact ⟨by show 128 * (n % 56) ≤ j.val; omega, by show j.val < 128 * (n % 56) + 128; omega⟩
    have hL : ∀ (q : Fin 576) (j : Fin 7168), 128 * n ≤ j.val → j.val < 128 * (n + 1) → 512 ≤ q.val →
        (ix2 q j : S576x7168.Idx) ∈ (pL (blkS v 4 n) (blkL w n) n).1.set := by
      intro q j hj hj' hq
      refine (Rect.mem_set_unit (s := S576x7168) (inb := inbL n)).mpr ?_
      intro a; match a with
      | ⟨0, _⟩ => exact ⟨hq, by show q.val < 512 + 64; omega⟩
      | ⟨1, _⟩ => exact ⟨by show 128 * (n % 56) ≤ j.val; omega, by show j.val < 128 * (n % 56) + 128; omega⟩
    have el : scrP (blkS v) (blkB w) (blkL w) (n + 1) = pL (blkS v 4 n) (blkL w n) n :: pB (blkS v 3 n) (blkB w 3 n) 3 n
      :: pB (blkS v 2 n) (blkB w 2 n) 2 n :: pB (blkS v 1 n) (blkB w 1 n) 1 n :: pB (blkS v 0 n) (blkB w 0 n) 0 n
      :: scrP (blkS v) (blkB w) (blkL w) n := rfl
    rw [el]
    refine ⟨fun p hp => ?_, fun q j hj => ?_⟩
    · simp only [List.mem_cons] at hp
      rcases hp with rfl | rfl | rfl | rfl | rfl | hp
      · exact good_L w v n (by omega)
      · exact good_B w v 3 n (by omega) (by omega)
      · exact good_B w v 2 n (by omega) (by omega)
      · exact good_B w v 1 n (by omega) (by omega)
      · exact good_B w v 0 n (by omega) (by omega)
      · exact h1 p hp
    · simp only [List.mem_cons]
      by_cases hj' : j.val < 128 * n
      · obtain ⟨p, hp, hm⟩ := h2 q j hj'
        exact ⟨p, .inr (.inr (.inr (.inr (.inr hp)))), hm⟩
      · have hq : q.val / 128 = 0 ∨ q.val / 128 = 1 ∨ q.val / 128 = 2 ∨ q.val / 128 = 3 ∨ 512 ≤ q.val := by omega
        rcases hq with h | h | h | h | h
        · exact ⟨_, .inr (.inr (.inr (.inr (.inl rfl)))), hB 0 (by omega) q j (by omega) hj h⟩
        · exact ⟨_, .inr (.inr (.inr (.inl rfl))), hB 1 (by omega) q j (by omega) hj h⟩
        · exact ⟨_, .inr (.inr (.inl rfl)), hB 2 (by omega) q j (by omega) hj h⟩
        · exact ⟨_, .inr (.inl rfl), hB 3 (by omega) q j (by omega) hj h⟩
        · exact ⟨_, .inl rfl, hL q j (by omega) hj h⟩

/-- The scratch after the first point is the scaled weights. -/
theorem scr_apply (w : Vec Ideal S576x7168 .fp8e4m3) (v : Vec Ideal S5x56 .f32) (o : Fin 576) (j : Fin 7168) :
    scr w v (ix2 o j) = wv w v o j := by
  obtain ⟨h1, h2⟩ := scrP_key w v 56 le_rfl
  unfold scr
  exact View.canon_eq_of_allAt _ _ _ (h2 o j (by omega)) fun p hp z hz => h1 p hp z o j hz

/-! ## The product -/

/-- The block a column lies in. -/
def kOf (j : Fin 7168) : Fin 56 := ⟨j.val / 128, by omega⟩

/-- A row's dequantised value at a column. -/
def dK {n : ℕ} (x : (⟨2, ![n, 7168]⟩ : Shape).Idx → EReal) (r : Fin n) (j : Fin 7168) : EReal :=
  deqK (amax (rb x r (kOf j))) (x (ix2 r j))

theorem lhs_at (o : Fin 576) (r q : Fin 256) :
    dot_S576x256_S256x256_S576x256_1_1_0_0_n_n.lhsIdx (ix2 o r)
      ((contrEquiv1 dot_S576x256_S256x256_S576x256_1_1_0_0_n_n 256 rfl rfl).symm q) = ix2 o q := by
  funext a; match a with
  | ⟨0, _⟩ => rfl
  | ⟨1, _⟩ => rfl

theorem rhs_at (o : Fin 576) (r q : Fin 256) :
    dot_S576x256_S256x256_S576x256_1_1_0_0_n_n.rhsIdx (ix2 o r)
      ((contrEquiv1 dot_S576x256_S256x256_S576x256_1_1_0_0_n_n 256 rfl rfl).symm q) = ix2 r q := by
  funext a; match a with
  | ⟨0, _⟩ => rfl
  | ⟨1, _⟩ => rfl

/-- The dequantised values of a chunk's two blocks, side by side. -/
theorem pair_apply (c : ℕ) (hc : c < 28) (r q : Fin 256) :
    concatenate S256x256 1 [⟨S256x128, xq (chunkX x) (2 * c)⟩, ⟨S256x128, xq (chunkX x) (2 * c + 1)⟩]
      concatenates_S256x128_S256x128_S256x256_d1 (ix2 r q) = dK x r ⟨256 * c + q.val, by omega⟩ := by
  have hx : ∀ (k : Fin 56) (l : Fin 128), 128 * k.val + l.val = 256 * c + q.val →
      xq (chunkX x) k.val (ix2 r l) = dK x r ⟨256 * c + q.val, by omega⟩ := by
    intro k l h
    rw [xq_apply]
    unfold dK
    have e1 : kOf ⟨256 * c + q.val, by omega⟩ = k := Fin.ext (by show (256 * c + q.val) / 128 = k.val; omega)
    have e2 : (⟨256 * c + q.val, by omega⟩ : Fin 7168) = col k l := Fin.ext h.symm
    rw [e1, e2]; rfl
  by_cases h : q.val < 128
  · rw [concatenate_pair_apply_left (t := S256x256) (s₁ := S256x128) (s₂ := S256x128) 1 _ _ _ (ix2 r q) rfl (ix2 r (⟨q.val, h⟩ : Fin 128)) (by
      intro b; match b with
      | ⟨0, _⟩ => rfl
      | ⟨1, _⟩ => rfl)]
    exact hx ⟨2 * c, by omega⟩ ⟨q.val, h⟩ (by show 128 * (2 * c) + q.val = _; omega)
  · rw [concatenate_pair_apply_right (t := S256x256) (s₁ := S256x128) (s₂ := S256x128) 1 _ _ _ (ix2 r q) rfl rfl (ix2 r (⟨q.val - 128, by omega⟩ : Fin 128)) (by
      intro b hb; match b with
      | ⟨0, _⟩ => rfl
      | ⟨1, _⟩ => exact absurd rfl hb) (by show q.val - 128 + 128 = q.val; omega)]
    exact hx ⟨2 * c + 1, by omega⟩ ⟨q.val - 128, by omega⟩ (by show 128 * (2 * c + 1) + (q.val - 128) = _; omega)

/-- A column's contribution to the product, zero past the columns. -/
def term (s : Vec Ideal S576x7168 .bf16) (o : Fin 576) (r : Fin 256) (j : ℕ) : EReal :=
  if h : j < 7168 then s (ix2 o ⟨j, h⟩) * dK x r ⟨j, h⟩ else 0

/-- The product of one chunk. -/
theorem dotC_apply (s : Vec Ideal S576x7168 .bf16) (c : ℕ) (hc : c < 28) (o : Fin 576) (r : Fin 256) :
    dotC (chunkX x) (chunkW s) c (ix2 o r) = ∑ q ∈ Finset.range 256, term x s o r (256 * c + q) := by
  unfold dotC
  refine (Ideal.matmul_constant_zero_apply _ none _ _ _).trans ?_
  rw [← Equiv.sum_comp (contrEquiv1 dot_S576x256_S256x256_S576x256_1_1_0_0_n_n 256 rfl rfl).symm, ← Fin.sum_univ_eq_sum_range]
  refine Finset.sum_congr rfl fun q _ => ?_
  rw [lhs_at, rhs_at, pair_apply x c hc]
  unfold term
  rw [dif_pos (by omega)]
  congr 1
  unfold chunkW
  rw [View.ld_apply]
  congr 1; funext a; apply Fin.ext
  match a with
  | ⟨0, _⟩ => show 0 + 1 * o.val = o.val; omega
  | ⟨1, _⟩ => show 256 * (c % 28) + 1 * q.val = 256 * c + q.val; omega

/-- The accumulator after each chunk is the sum over the columns so far. -/
theorem acc_apply (s : Vec Ideal S576x7168 .bf16) (c : ℕ) (hc : c < 28) (o : Fin 576) (r : Fin 256) :
    acc (chunkX x) (chunkW s) c (ix2 o r) = ∑ j ∈ Finset.range (256 * (c + 1)), term x s o r j := by
  induction c with
  | zero => refine (dotC_apply x s 0 hc o r).trans ?_; simp
  | succ c ih =>
    show acc (chunkX x) (chunkW s) c (ix2 o r) + dotC (chunkX x) (chunkW s) (c + 1) (ix2 o r) = _
    rw [ih (by omega), dotC_apply x s (c + 1) hc, show 256 * (c + 1 + 1) = 256 * (c + 1) + 256 by omega, Finset.sum_range_add]

/-- The whole product: over all the columns, the scaled weights times the dequantised values. -/
theorem acc_all (w : Vec Ideal S576x7168 .fp8e4m3) (v : Vec Ideal S5x56 .f32) (o : Fin 576) (r : Fin 256) :
    acc (chunkX x) (chunkW (scr w v)) 27 (ix2 o r) = ∑ j : Fin 7168, wv w v o j * dK x r j := by
  rw [acc_apply x _ 27 (by omega), show 256 * (27 + 1) = 7168 by norm_num, ← Fin.sum_univ_eq_sum_range]
  refine Finset.sum_congr rfl fun j _ => ?_
  unfold term
  rw [dif_pos j.isLt, scr_apply]

/-! ## The scales -/

/-- The collected largest magnitudes of one parity's rows: lane `k` holds block `k`'s. -/
theorem am_apply (p : Fin 2) (n : ℕ) (hn : n ≤ 56) (i : Fin 128) (k : Fin 56) (hk : k.val < n) :
    am p (chunkX x) n (ix2 i (⟨k.val, by omega⟩ : Fin 128)) = amax (rb x ⟨2 * i.val + p.val, by omega⟩ k) := by
  induction n with
  | zero => omega
  | succ n ih =>
    show Scalar.select (cmpi .eq (iota .tc S128x128 32 [1] iota_S128x128_d1_w32) (broadcast S128x128 (BitVec.ofNat 32 n)) (ix2 i (⟨k.val, by omega⟩ : Fin 128)))
      (rowsOfParity p S128x128 (mx (blk (chunkX x) n)) bitcasts_S256x128_w16_S128x128_w32 (ix2 i (⟨k.val, by omega⟩ : Fin 128)))
      (am p (chunkX x) n (ix2 i (⟨k.val, by omega⟩ : Fin 128))) = _
    have hi : cmpi .eq (iota .tc S128x128 32 [1] iota_S128x128_d1_w32) (broadcast S128x128 (BitVec.ofNat 32 n)) (ix2 i (⟨k.val, by omega⟩ : Fin 128))
        = BitVec.ofBool (BitVec.ofNat 32 k.val == BitVec.ofNat 32 n) := by
      show BitVec.ofBool (iota .tc S128x128 32 [1] iota_S128x128_d1_w32 (ix2 i (⟨k.val, by omega⟩ : Fin 128)) == BitVec.ofNat 32 n) = _
      rw [iota_apply]
      congr 2; congr 1; show 0 * 128 + k.val = k.val; omega
    rw [hi]
    by_cases h : k.val = n
    · rw [show BitVec.ofBool (BitVec.ofNat 32 k.val == BitVec.ofNat 32 n) = 1#1 by rw [h]; simp, select_one]
      subst h
      rw [rowsOfParity_apply]
      refine Eq.trans (congrArg _ ?_) (mx_blk x k ⟨2 * i.val + p.val, by omega⟩ ⟨k.val, by omega⟩)
      funext a; match a with
      | ⟨0, _⟩ => rfl
      | ⟨1, _⟩ => rfl
    · rw [show BitVec.ofBool (BitVec.ofNat 32 k.val == BitVec.ofNat 32 n) = 0#1 by
        have : ¬ BitVec.ofNat 32 k.val = BitVec.ofNat 32 n := by
          intro e; have := congrArg BitVec.toNat e; rw [BitVec.toNat_ofNat, BitVec.toNat_ofNat] at this; omega
        rw [beq_eq_false_iff_ne.mpr this]; rfl, select_zero]
      exact ih (by omega) (by omega)

/-- The largest magnitudes, row block by row block, the blocks along the first axis. -/
def xsA : FVec Ideal S56x256 .f32 :=
  extf .f32 (extractStridedSlice S56x256 ![0, 0] (transpose S128x256 [1, 0]
    (interleaveRows S256x128 (am 0 (chunkX x) 56) (am 1 (chunkX x) 56) bitcasts_S256x128_w16_S128x128_w32) transposes_S256x128_p1_0_S128x256)
    slices_S128x256_o0_0_S56x256) bitsLt_bf16_f32

theorem xsA_apply (r : Fin 256) (k : Fin 56) : xsA x (ix2 k r) = amax (rb x r k) := by
  unfold xsA
  rw [extf_apply]
  show (extractStridedSlice S56x256 _ _ _ (ix2 k r) : EReal) = _
  rw [extractStridedSlice_apply _ _ _ _ (ix2 (⟨k.val, by omega⟩ : Fin 128) r) (by
    intro b; match b with
    | ⟨0, _⟩ => show k.val = 0 + k.val; omega
    | ⟨1, _⟩ => show r.val = 0 + r.val; omega)]
  rw [transpose_apply _ _ _ _ (ix2 r (⟨k.val, by omega⟩ : Fin 128)) (by
    intro b; match b with
    | ⟨0, _⟩ => rfl
    | ⟨1, _⟩ => rfl)]
  rw [interleaveRows_apply]
  have hrow : S256x128.row (ix2 r (⟨k.val, by omega⟩ : Fin 128)) = r.val := rfl
  rw [hrow]
  split
  · refine Eq.trans (congrArg _ ?_) ((am_apply x 0 56 le_rfl ⟨r.val / 2, by omega⟩ k k.isLt).trans ?_)
    · funext a; match a with
      | ⟨0, _⟩ => rfl
      | ⟨1, _⟩ => rfl
    · congr 2; apply Fin.ext; show 2 * (r.val / 2) + 0 = r.val; omega
  · refine Eq.trans (congrArg _ ?_) ((am_apply x 1 56 le_rfl ⟨r.val / 2, by omega⟩ k k.isLt).trans ?_)
    · funext a; match a with
      | ⟨0, _⟩ => rfl
      | ⟨1, _⟩ => rfl
    · congr 2; apply Fin.ext; show 2 * (r.val / 2) + 1 = r.val; omega

/-- The scale's bits, from a largest magnitude. -/
theorem scl_bits (a : EReal) : Scalar.select (BitVec.ofBool (decide (a = Ideal.ofBits .f32 0x00000000#32))) (Ideal.ofBits .f32 0x3F800000#32)
    (Ideal.ofBits .f32 (IntOp.shli .vector (Ideal.fptosi 32 (min (Ideal.ofBits .f32 0x437F0000#32) (max (Ideal.ofBits .f32 0x00000000#32)
      (Ideal.liftRound Int.floor (Ideal.div (Ideal.log (a * ((1 / 448 : ℝ) : EReal))) ((Real.log 2 : ℝ) : EReal))
        + Ideal.ofBits .f32 0x42FE0000#32))) + 1#32) 23#32)) = scl a := by
  rw [c_255, c_zero, c_127]
  unfold scl
  by_cases h : a = 0
  · rw [if_pos h, show BitVec.ofBool (decide (a = 0)) = 1#1 by simp [h], select_one]; rfl
  · rw [if_neg h, show BitVec.ofBool (decide (a = 0)) = 0#1 by simp [h], select_zero]; rfl

/-- The scale of a row's block. -/
theorem xsB_apply (r : Fin 256) (k : Fin 56) : xsB (chunkX x) (ix2 r k) = scl (amax (rb x r k)) := by
  rw [← xsA_apply, ← scl_bits, ← ln2, ← inv448]
  unfold xsB
  rw [transpose_apply _ _ _ _ (ix2 k r) (by
    intro b; match b with
    | ⟨0, _⟩ => rfl
    | ⟨1, _⟩ => rfl)]
  rfl

/-! ## The normalised rows and the rotary rows -/

/-- A normalised entry: the entry times the reciprocal root of the mean square plus a small constant, times the gain. -/
def norm (y : Fin 512 → EReal) (o : Fin 512) (g : EReal) : EReal :=
  y o * Ideal.rsqrt ((∑ q : Fin 512, y q * y q) * ((1 / 512 : ℝ) : EReal) + Ideal.ofBits .f32 0x358637BD#32) * g

theorem cnB_apply (y : FVec Ideal S576x256 .f32) (g : Vec Ideal S512x256 .f32) (r : Fin 256) (o : Fin 512) :
    cnB y g (ix2 r o) = norm (fun q => y (ix2 (⟨q.val, by omega⟩ : Fin 576) r)) o (g (ix2 o r)) := by
  have hu : ∀ q : Fin 512, extractStridedSlice S512x256 ![0, 0] y slices_S576x256_o0_0_S512x256 (ix2 q r) = y (ix2 (⟨q.val, by omega⟩ : Fin 576) r) := by
    intro q
    rw [extractStridedSlice_apply _ _ _ _ (ix2 (⟨q.val, by omega⟩ : Fin 576) r) (by
      intro b; match b with
      | ⟨0, _⟩ => show q.val = 0 + q.val; omega
      | ⟨1, _⟩ => show r.val = 0 + r.val; omega)]
  unfold cnB
  rw [transpose_apply _ _ _ _ (ix2 o r) (by
    intro b; match b with
    | ⟨0, _⟩ => rfl
    | ⟨1, _⟩ => rfl)]
  show extractStridedSlice S512x256 ![0, 0] y slices_S576x256_o0_0_S512x256 (ix2 o r) * broadcastTo S512x256 _ broadcasts_S1x256_S512x256 (ix2 o r)
    * shapeCast S512x256 g shapeCasts_S512x256_S512x256 (ix2 o r) = _
  rw [hu, shapeCast_apply g _ _ (ix2 o r) rfl, broadcastTo_apply _ _ _ (ix2 (0 : Fin 1) r) (by
    intro a; match a with
    | ⟨0, _⟩ => rfl
    | ⟨1, _⟩ => rfl)]
  unfold norm
  congr 2
  show Ideal.rsqrt (shapeCast S1x256 _ shapeCasts_S256_S1x256 (ix2 (0 : Fin 1) r) * Ideal.ofBits .f32 0x3B000000#32 + Ideal.ofBits .f32 0x358637BD#32) = _
  rw [shapeCast_apply _ _ _ (ix1 r) (by rw [Shape.rowMajor_val_one, Shape.rowMajor_val_two]; show r.val = 0 * 256 + r.val; omega), c_inv512]
  congr 3
  refine (Ideal.multiReduction_add_single _ _ _ _ _ _).trans ?_
  refine Finset.sum_congr rfl fun (q : Fin 512) _ => ?_
  have e : reduces_S512x256_S256.lift (ix1 r) q = ix2 q r := by
    funext a; match a with
    | ⟨0, _⟩ => apply Fin.ext; rfl
    | ⟨1, _⟩ => apply Fin.ext; rfl
  rw [e]
  show extractStridedSlice S512x256 ![0, 0] y slices_S576x256_o0_0_S512x256 (ix2 q r) * extractStridedSlice S512x256 ![0, 0] y slices_S576x256_o0_0_S512x256 (ix2 q r) = _
  exact congrArg₂ (· * ·) (hu q) (hu q)

theorem kpeB_apply (y : FVec Ideal S576x256 .f32) (r : Fin 256) (o : Fin 64) (z : Fin 1) :
    kpeB y (ix3 z r o) = y (ix2 (⟨512 + o.val, by omega⟩ : Fin 576) r) := by
  unfold kpeB
  rw [shapeCast_apply _ _ _ (ix2 r o) (by rw [Shape.rowMajor_val_two, Shape.rowMajor_val_three]; show r.val * 64 + o.val = (z.val * 256 + r.val) * 64 + o.val; omega)]
  rw [transpose_apply _ _ _ _ (ix2 o r) (by
    intro b; match b with
    | ⟨0, _⟩ => rfl
    | ⟨1, _⟩ => rfl)]
  show extractStridedSlice S64x256 ![512, 0] y slices_S576x256_o512_0_S64x256 (ix2 o r) = _
  rw [extractStridedSlice_apply _ _ _ _ (ix2 (⟨512 + o.val, by omega⟩ : Fin 576) r) (by
      intro b; match b with
      | ⟨0, _⟩ => rfl
      | ⟨1, _⟩ => show r.val = 0 + r.val; omega)]

end Cert.KernelIdeal.Vals

end
-- ==== Proof.Final.lean ====
/-
  The kernel's four result arrays over the extended reals, element by element, from the arrays it is launched with.
-/
module

public import proofs.«01_k».proof.Proof.Points
public import proofs.«01_k».proof.Proof.Vals2

@[expose] public section

noncomputable section

namespace Cert.KernelIdeal.Final

open Idealize.ShloMosaic hiding ix1 ix2 ix3
open Idealize.ShloMosaic.TcCoe
open Idealize.ShloMosaic.ValueIdx Cert.KernelIdeal Cert.KernelIdeal.Gen Cert.KernelIdeal.Value Cert.KernelIdeal.Block
open Cert.KernelIdeal.Points Cert.KernelIdeal.Vals Cert.Quant Cert.Spec

variable (m : (ℓ : Loc nD τ sig) → Buf (Elt Ideal) ℓ)

/-- The rows are the first argument, its first two axes laid out as one. -/
theorem x0_eq (c : Dev nD) : x0 m c
    = shapeCast S18432x7168 (m ((c : Thread nD τ).loc main_arg0)) shapeCasts_S9x2048x7168_S18432x7168 := by
  unfold x0
  dsimp only [V, hostOps0]
  after_results
  rfl

/-- The gain, one row of copies for each of its entries. -/
theorem g0_apply (c : Dev nD) (o : Fin 512) (r : Fin 256) : g0 m c (ix2 o r) = m ((c : Thread nD τ).loc main_arg3) (ix1 o) := by
  have h : g0 m c = broadcastInDim S512x256 ![0, 1] bcast_S512x1_S512x256_0_1 (broadcastInDim S512x1 ![0] bcast_S512_S512x1_0
      ((extf .f32 · bitsLt_bf16_f32 : FVec Ideal S512 .bf16 → FVec Ideal S512 .f32) (m ((c : Thread nD τ).loc main_arg3)))) := by
    unfold g0
    dsimp only [V, hostOps0]
    after_results
  rw [h, broadcastInDim_apply _ _ _ _ (ix2 o (0 : Fin 1)) (by
    intro a; match a with
    | ⟨0, _⟩ => rfl
    | ⟨1, _⟩ => rfl), broadcastInDim_apply _ _ _ _ (ix1 o) (by
    intro a; match a with
    | ⟨0, _⟩ => rfl)]
  rfl

/-- A point's rows, block by block, are rows of the whole array. -/
theorem rb_xb (c : Dev nD) (t : Fin cfg0.N) (r : Fin 256) (R : Fin 18432) (h : R.val = t.val * 256 + r.val) (k : Fin 56) :
    rb (xb m c t) r k = rb (x0 m c) R k := by
  funext l
  exact xb_apply m c t (ix2 r (col k l)) (ix2 R (col k l)) h rfl

theorem dK_xb (c : Dev nD) (t : Fin cfg0.N) (r : Fin 256) (R : Fin 18432) (h : R.val = t.val * 256 + r.val) (j : Fin 7168) :
    dK (xb m c t) r j = dK (x0 m c) R j := by
  unfold dK
  rw [rb_xb m c t r R h, xb_apply m c t (ix2 r j) (ix2 R j) h rfl]

/-- The point that writes a row. -/
def pt (R : Fin 18432) : Fin cfg0.N := ⟨R.val / 256, lt_of_lt_of_eq (by omega) N_0.symm⟩
/-- A row's place among its point's rows. -/
def rw' (R : Fin 18432) : Fin 256 := ⟨R.val % 256, by omega⟩

theorem pt_rw (R : Fin 18432) : R.val = (pt R).val * 256 + (rw' R).val := by
  show R.val = R.val / 256 * 256 + R.val % 256; omega

/-- The product of a row with the scaled weights' row `o`. -/
def yK (c : Dev nD) (R : Fin 18432) (o : Fin 576) : EReal := ∑ j : Fin 7168, wv (w0 m c) (v0 m c) o j * dK (x0 m c) R j

theorem acc_pt (c : Dev nD) (R : Fin 18432) (o : Fin 576) :
    acc (chunkX (xb m c (pt R))) (chunkW (scr (w0 m c) (v0 m c))) 27 (ix2 o (rw' R)) = yK m c R o := by
  rw [acc_all]
  refine Finset.sum_congr rfl fun j _ => ?_
  rw [dK_xb m c (pt R) (rw' R) R (pt_rw R)]

/-- The normalised rows. -/
theorem G4_apply (c : Dev nD) (R : Fin 18432) (o : Fin 512) :
    G4 m c (ix2 R o) = norm (fun q => yK m c R ⟨q.val, by omega⟩) o (m ((c : Thread nD τ).loc main_arg3) (ix1 o)) := by
  have hp : pt4Of (ix2 R o) = (pt R).val := by
    show 1 * (R.val / 256 - 0) + 1 * (o.val / 512 - 0) = R.val / 256; omega
  have hl : loc4Of (ix2 R o) = ix2 (rw' R) o := by
    funext a; match a with
    | ⟨0, _⟩ => rfl
    | ⟨1, _⟩ => apply Fin.ext; show o.val % 512 = o.val; omega
  have hN : pt4Of (ix2 R o) < cfg0.N := by rw [hp]; exact (pt R).isLt
  unfold G4
  rw [dif_pos hN, ← outsAt0_sweep m c _ hN, outs_eq, hl]
  have hx : (⟨pt4Of (ix2 R o), hN⟩ : Fin cfg0.N) = pt R := Fin.ext hp
  rw [hx]
  refine (cnB_apply _ _ (rw' R) o).trans ?_
  rw [g0_apply]
  exact congrArg (fun y => norm y o (m ((c : Thread nD τ).loc main_arg3) (ix1 o))) (funext fun q => acc_pt m c R ⟨q.val, by omega⟩)

/-- The row that two leading coordinates name. -/
def row (b : Fin 9) (s : Fin 2048) : Fin 18432 := ⟨b.val * 2048 + s.val, by omega⟩

/-- The rotary rows. -/
theorem G5_apply (c : Dev nD) (b : Fin 9) (s : Fin 2048) (o : Fin 64) :
    G5 m c (ix3 b s o) = yK m c (row b s) ⟨512 + o.val, by omega⟩ := by
  have hp : pt5Of (ix3 b s o) = (pt (row b s)).val := by
    show 8 * (b.val / 1 - 0) + 1 * (s.val / 256 - 0) + 1 * (o.val / 64 - 0) = (b.val * 2048 + s.val) / 256; omega
  have hl : loc5Of (ix3 b s o) = ix3 (0 : Fin 1) (rw' (row b s)) o := by
    funext a; match a with
    | ⟨0, _⟩ => apply Fin.ext; show b.val % 1 = 0; omega
    | ⟨1, _⟩ => apply Fin.ext; show s.val % 256 = (b.val * 2048 + s.val) % 256; omega
    | ⟨2, _⟩ => apply Fin.ext; show o.val % 64 = o.val; omega
  have hN : pt5Of (ix3 b s o) < cfg0.N := by rw [hp]; exact (pt _).isLt
  unfold G5
  rw [dif_pos hN, ← outsAt0_sweep m c _ hN, outs_eq, hl]
  have hx : (⟨pt5Of (ix3 b s o), hN⟩ : Fin cfg0.N) = pt (row b s) := Fin.ext hp
  rw [hx]
  refine (kpeB_apply _ (rw' (row b s)) o 0).trans ?_
  exact acc_pt m c (row b s) ⟨512 + o.val, by omega⟩

/-- The codes. -/
theorem G6_apply (c : Dev nD) (R : Fin 18432) (j : Fin 7168) :
    G6 m c (ix2 R j) = codeK (amax (rb (x0 m c) R (kOf j))) (x0 m c (ix2 R j)) := by
  have hp : pt6Of (ix2 R j) = (pt R).val := by
    show 1 * (R.val / 256 - 0) + 1 * (j.val / 7168 - 0) = R.val / 256; omega
  have hj : col (kOf j) ⟨j.val % 128, by omega⟩ = j := Fin.ext (by show 128 * (j.val / 128) + j.val % 128 = j.val; omega)
  have hl : loc6Of (ix2 R j) = ix2 (rw' R) (col (kOf j) ⟨j.val % 128, by omega⟩) := by
    rw [hj]
    funext a; match a with
    | ⟨0, _⟩ => rfl
    | ⟨1, _⟩ => apply Fin.ext; show j.val % 7168 = j.val; omega
  have hN : pt6Of (ix2 R j) < cfg0.N := by rw [hp]; exact (pt R).isLt
  unfold G6
  rw [dif_pos hN, ← outsAt0_sweep m c _ hN, outs_eq, hl]
  have hx : (⟨pt6Of (ix2 R j), hN⟩ : Fin cfg0.N) = pt R := Fin.ext hp
  rw [hx]
  refine (canon_codes _ (rw' R) (kOf j) _).trans ?_
  rw [codes_apply, rb_xb m c (pt R) (rw' R) R (pt_rw R)]
  congr 1
  show x0 m c (ix2 R (col (kOf j) ⟨j.val % 128, by omega⟩)) = _
  rw [hj]

/-- The scales. -/
theorem G7_apply (c : Dev nD) (b : Fin 9) (s : Fin 2048) (k : Fin 56) :
    G7 m c (ix3 b s k) = scl (amax (rb (x0 m c) (row b s) k)) := by
  have hp : pt7Of (ix3 b s k) = (pt (row b s)).val := by
    show 8 * (b.val / 1 - 0) + 1 * (s.val / 256 - 0) + 1 * (k.val / 56 - 0) = (b.val * 2048 + s.val) / 256; omega
  have hl : loc7Of (ix3 b s k) = ix3 (0 : Fin 1) (rw' (row b s)) k := by
    funext a; match a with
    | ⟨0, _⟩ => apply Fin.ext; show b.val % 1 = 0; omega
    | ⟨1, _⟩ => apply Fin.ext; show s.val % 256 = (b.val * 2048 + s.val) % 256; omega
    | ⟨2, _⟩ => apply Fin.ext; show k.val % 56 = k.val; omega
  have hN : pt7Of (ix3 b s k) < cfg0.N := by rw [hp]; exact (pt _).isLt
  unfold G7
  rw [dif_pos hN, ← outsAt0_sweep m c _ hN, outs_eq, hl]
  have hx : (⟨pt7Of (ix3 b s k), hN⟩ : Fin cfg0.N) = pt (row b s) := Fin.ext hp
  rw [hx]
  refine (shapeCast_apply (xsB (chunkX (xb m c (pt (row b s))))) shapeCasts_S256x56_S1x256x56 _ (ix2 (rw' (row b s)) k) (by
    rw [Shape.rowMajor_val_two, Shape.rowMajor_val_three]; show (rw' (row b s)).val * 56 + k.val = (0 * 256 + (rw' (row b s)).val) * 56 + k.val; omega)).trans ?_
  rw [xsB_apply, rb_xb m c (pt (row b s)) (rw' (row b s)) (row b s) (pt_rw _)]

end Cert.KernelIdeal.Final

end
-- ==== Proof.RefVals.lean ====
/-
  The reference's values over the extended reals, element by element: the largest magnitudes, the scales, the codes, the
  product with the scaled weights, the normalised rows and the rotary rows.
-/
module

public import proofs.«01_k».proof.Proof.Gen.ReferenceIdeal.Skeleton
public import proofs.«01_k».proof.Proof.Vals2

@[expose] public section

noncomputable section

namespace Cert.ReferenceIdeal.Vals

open Idealize.ShloMosaic hiding ix1 ix2 ix3
open Idealize.ShloMosaic.ValueIdx Cert.ReferenceIdeal Cert.ReferenceIdeal.Gen
open Cert.KernelIdeal.Vals (rb col kOf wv scl_bits)
open Cert.Quant Cert.Spec

/-! ## Vectors at an index, whatever the shape -/

section Generic

variable {s : Shape} {φ ψ : FTy}

theorem mul_at (a b : FVec Ideal s φ) (i : s.Idx) : (mulf a b i : EReal) = a i * b i := rfl
theorem ext_at (a : FVec Ideal s φ) (h : φ.bits < ψ.bits) (i : s.Idx) : (extf ψ a h i : EReal) = a i := rfl
theorem tr_at (a : FVec Ideal s φ) (h : ψ.bits < φ.bits) (i : s.Idx) : (truncf ψ a h i : EReal) = a i := rfl
theorem abs_at (a : FVec Ideal s φ) (i : s.Idx) : (absf a i : EReal) = max (a i) (-(a i)) := rfl
theorem rs_at (a : FVec Ideal s .f32) (b c : BitVec 32) (i : s.Idx) :
    (rsqrt (addf (divf a (broadcast s (Scalar.ofBits .f32 b))) (broadcast s (Scalar.ofBits .f32 c))) i : EReal)
      = Ideal.rsqrt (Ideal.div (a i) (Ideal.ofBits .f32 b) + Ideal.ofBits .f32 c) := rfl
theorem clip_at (a : FVec Ideal s .f32) (h : FTy.fp8e4m3.bits < FTy.f32.bits) (i : s.Idx) :
    (truncf .fp8e4m3 (minimumf (broadcast s (Scalar.ofBits .f32 0x43E00000#32)) (maximumf (broadcast s (Scalar.ofBits .f32 0xC3E00000#32)) a)) h i : EReal)
      = clip (a i) := by
  unfold clip; rw [← c_448, ← c_neg448]; rfl

/-- The scales' vector at an index. -/
theorem scl_at (a : FVec Ideal s .f32) (p q : Ideal .f32) (hp : p = ((1 / 448 : ℝ) : EReal)) (hq : q = ((Real.log 2 : ℝ) : EReal)) (i : s.Idx) :
    ((select (cmpf .oeq a (broadcast s (Scalar.ofBits .f32 0x00000000#32))) (broadcast s (Scalar.ofBits .f32 0x3F800000#32))
      (bitcastToFloat .f32 (shli (addi (fptosi 32 (minimumf (broadcast s (Scalar.ofBits .f32 0x437F0000#32))
        (maximumf (broadcast s (Scalar.ofBits .f32 0x00000000#32)) (addf (floor (divf (log (mulf a (broadcast s p))) (broadcast s q)))
          (broadcast s (Scalar.ofBits .f32 0x42FE0000#32)))))) (broadcast s 1#32)) (broadcast s 23#32))) : FVec Ideal s .f32) i : EReal) = scl (a i) := by
  rw [← scl_bits, ← hp, ← hq]; rfl

/-- The inverse scale's bits, from a largest magnitude. -/
theorem inv_bits (a : EReal) : Scalar.select (BitVec.ofBool (decide (a = Ideal.ofBits .f32 0x00000000#32))) (Ideal.ofBits .f32 0x3F800000#32)
    (Ideal.ofBits .f32 (IntOp.shli .vector (253#32 - Ideal.fptosi 32 (min (Ideal.ofBits .f32 0x437F0000#32) (max (Ideal.ofBits .f32 0x00000000#32)
      (Ideal.liftRound Int.floor (Ideal.div (Ideal.log (a * ((1 / 448 : ℝ) : EReal))) ((Real.log 2 : ℝ) : EReal))
        + Ideal.ofBits .f32 0x42FE0000#32)))) 23#32)) = Cert.Spec.inv a := by
  rw [c_255, c_zero, c_127]
  unfold Cert.Spec.inv
  by_cases h : a = 0
  · rw [if_pos h, show BitVec.ofBool (decide (a = 0)) = 1#1 by simp [h], select_one]; rfl
  · rw [if_neg h, show BitVec.ofBool (decide (a = 0)) = 0#1 by simp [h], select_zero]; rfl

/-- The inverse scales' vector at an index. -/
theorem inv_at (a : FVec Ideal s .f32) (p q : Ideal .f32) (hp : p = ((1 / 448 : ℝ) : EReal)) (hq : q = ((Real.log 2 : ℝ) : EReal)) (i : s.Idx) :
    ((select (cmpf .oeq a (broadcast s (Scalar.ofBits .f32 0x00000000#32))) (broadcast s (Scalar.ofBits .f32 0x3F800000#32))
      (bitcastToFloat .f32 (shli (subi (broadcast s 253#32) (fptosi 32 (minimumf (broadcast s (Scalar.ofBits .f32 0x437F0000#32))
        (maximumf (broadcast s (Scalar.ofBits .f32 0x00000000#32)) (addf (floor (divf (log (mulf a (broadcast s p))) (broadcast s q)))
          (broadcast s (Scalar.ofBits .f32 0x42FE0000#32))))))) (broadcast s 23#32))) : FVec Ideal s .f32) i : EReal) = Cert.Spec.inv (a i) := by
  rw [← inv_bits, ← hp, ← hq]; rfl

end Generic

variable (x : Vec Ideal S18432x7168 .bf16)

theorem ln2 : (Named.named κ "ln2" 0x3F317218#32 : Ideal .f32) = ((Real.log 2 : ℝ) : EReal) :=
  Idealize.ShloMosaic.IdealRules.named_const.ideal_named_scalar _ _ _ _ rfl
theorem inv448 : (Named.named κ "inv448" 0x3B124925#32 : Ideal .f32) = ((1 / 448 : ℝ) : EReal) :=
  Idealize.ShloMosaic.IdealRules.named_const.ideal_named_scalar _ _ _ _ rfl

/-- The rows, block by block. -/
theorem pay2_apply (R : Fin 18432) (k : Fin 56) (l : Fin 128) : k0_pay2 x (ix3 R k l) = rb x R k l := by
  unfold k0_pay2
  rw [shapeCast_apply _ _ _ (ix2 R (col k l)) (by
    rw [Shape.rowMajor_val_two, Shape.rowMajor_val_three]; show R.val * 7168 + (128 * k.val + l.val) = (R.val * 56 + k.val) * 128 + l.val; omega)]
  rw [ext_at, shapeCast_apply _ _ _ (ix2 R (col k l)) rfl]
  rfl

/-- The largest magnitudes. -/
theorem pay3_apply (R : Fin 18432) (k : Fin 56) : k0_pay3 x (ix2 R k) = amax (rb x R k) := by
  unfold k0_pay3
  refine (Ideal.multiReduction_maximumf_single _ _ _ _ _ _).trans ?_
  unfold amax
  rw [← c_bot32]
  refine Finset.fold_congr fun (l : Fin 128) _ => ?_
  have e : reduces_S18432x56x128_S18432x56.lift (ix2 R k) l = ix3 R k l := by
    funext a; match a with
    | ⟨0, _⟩ => apply Fin.ext; rfl
    | ⟨1, _⟩ => apply Fin.ext; rfl
    | ⟨2, _⟩ => apply Fin.ext; rfl
  show max (k0_pay2 x (reduces_S18432x56x128_S18432x56.lift (ix2 R k) l)) (-(k0_pay2 x (reduces_S18432x56x128_S18432x56.lift (ix2 R k) l))) = _
  rw [e, pay2_apply]

/-- The scales. -/
theorem pay6_apply (R : Fin 18432) (k : Fin 56) : k0_pay6 x (ix2 R k) = scl (amax (rb x R k)) := by
  unfold k0_pay6 k0_pay5 k0_pay4
  dsimp only
  rw [scl_at _ _ _ inv448 ln2, pay3_apply]

/-- The codes, block by block. -/
theorem pay7_apply (R : Fin 18432) (k : Fin 56) (l : Fin 128) : k0_pay7 x (ix3 R k l) = code (amax (rb x R k)) (rb x R k l) := by
  unfold k0_pay7 k0_pay5 k0_pay4
  dsimp only
  rw [clip_at, mul_at, pay2_apply, broadcastTo_apply _ _ _ (ix3 R k (0 : Fin 1)) (by
    intro a; match a with
    | ⟨0, _⟩ => rfl
    | ⟨1, _⟩ => rfl
    | ⟨2, _⟩ => rfl)]
  rw [shapeCast_apply _ _ _ (ix2 R k) (by
    rw [Shape.rowMajor_val_two, Shape.rowMajor_val_three]; show R.val * 56 + k.val = (R.val * 56 + k.val) * 1 + 0; omega)]
  rw [inv_at _ _ _ inv448 ln2, pay3_apply]
  rfl

theorem split (j : Fin 7168) : col (kOf j) ⟨j.val % 128, by omega⟩ = j := Fin.ext (by show 128 * (j.val / 128) + j.val % 128 = j.val; omega)

/-- The codes. -/
theorem pay8_apply (R : Fin 18432) (j : Fin 7168) : k0_pay8 (k0_pay7 x) (ix2 R j) = code (amax (rb x R (kOf j))) (x (ix2 R j)) := by
  unfold k0_pay8
  rw [shapeCast_apply _ _ _ (ix3 R (kOf j) (⟨j.val % 128, by omega⟩ : Fin 128)) (by
    rw [Shape.rowMajor_val_two, Shape.rowMajor_val_three]; show (R.val * 56 + j.val / 128) * 128 + j.val % 128 = R.val * 7168 + j.val; omega)]
  rw [pay7_apply]
  show code _ (x (ix2 R (col (kOf j) ⟨j.val % 128, by omega⟩))) = _
  rw [split]

/-- A row's dequantised value at a column. -/
def dR (R : Fin 18432) (j : Fin 7168) : EReal := deq (amax (rb x R (kOf j))) (x (ix2 R j))

theorem lhs_at (R : Fin 18432) (o : Fin 576) (j : Fin 7168) :
    dot_S18432x7168_S576x7168_S18432x576_1_1_0_0_n_n.lhsIdx (ix2 R o)
      ((contrEquiv1 dot_S18432x7168_S576x7168_S18432x576_1_1_0_0_n_n 7168 rfl rfl).symm j) = ix2 R j := by
  funext a; match a with
  | ⟨0, _⟩ => rfl
  | ⟨1, _⟩ => rfl

theorem rhs_at (R : Fin 18432) (o : Fin 576) (j : Fin 7168) :
    dot_S18432x7168_S576x7168_S18432x576_1_1_0_0_n_n.rhsIdx (ix2 R o)
      ((contrEquiv1 dot_S18432x7168_S576x7168_S18432x576_1_1_0_0_n_n 7168 rfl rfl).symm j) = ix2 o j := by
  funext a; match a with
  | ⟨0, _⟩ => rfl
  | ⟨1, _⟩ => rfl

/-- The weights' scales, each repeated over its block. -/
def rep (v : Vec Ideal S5x56 .f32) : FVec Ideal S576x7168 .f32 :=
  extractStridedSlice S576x7168 ![0, 0] (shapeCast S640x7168 (broadcastTo S640x56x128 (shapeCast S640x56x1 (shapeCast S640x56
    (broadcastTo S5x128x56 (shapeCast S5x1x56 v shapeCasts_S5x56_S5x1x56) broadcasts_S5x1x56_S5x128x56) shapeCasts_S5x128x56_S640x56)
    shapeCasts_S640x56_S640x56x1) broadcasts_S640x56x1_S640x56x128) shapeCasts_S640x56x128_S640x7168) slices_S640x7168_o0_0_S576x7168

theorem rep_apply (v : Vec Ideal S5x56 .f32) (o : Fin 576) (j : Fin 7168) :
    rep v (ix2 o j) = v (ix2 (⟨o.val / 128, by omega⟩ : Fin 5) (⟨j.val / 128, by omega⟩ : Fin 56)) := by
  unfold rep
  rw [extractStridedSlice_apply _ _ _ _ (ix2 (⟨o.val, by omega⟩ : Fin 640) j) (by
    intro b; match b with
    | ⟨0, _⟩ => show o.val = 0 + o.val; omega
    | ⟨1, _⟩ => show j.val = 0 + j.val; omega)]
  rw [shapeCast_apply _ _ _ (ix3 (⟨o.val, by omega⟩ : Fin 640) (kOf j) (⟨j.val % 128, by omega⟩ : Fin 128)) (by
    rw [Shape.rowMajor_val_two, Shape.rowMajor_val_three]; show (o.val * 56 + j.val / 128) * 128 + j.val % 128 = o.val * 7168 + j.val; omega)]
  rw [broadcastTo_apply _ _ _ (ix3 (⟨o.val, by omega⟩ : Fin 640) (kOf j) (0 : Fin 1)) (by
    intro a; match a with
    | ⟨0, _⟩ => rfl
    | ⟨1, _⟩ => rfl
    | ⟨2, _⟩ => rfl)]
  rw [shapeCast_apply _ _ _ (ix2 (⟨o.val, by omega⟩ : Fin 640) (kOf j)) (by
    rw [Shape.rowMajor_val_two, Shape.rowMajor_val_three]; show o.val * 56 + j.val / 128 = (o.val * 56 + j.val / 128) * 1 + 0; omega)]
  rw [shapeCast_apply _ _ _ (ix3 (⟨o.val / 128, by omega⟩ : Fin 5) (⟨o.val % 128, by omega⟩ : Fin 128) (kOf j)) (by
    rw [Shape.rowMajor_val_two, Shape.rowMajor_val_three]; show (o.val / 128 * 128 + o.val % 128) * 56 + j.val / 128 = o.val * 56 + j.val / 128; omega)]
  rw [broadcastTo_apply _ _ _ (ix3 (⟨o.val / 128, by omega⟩ : Fin 5) (0 : Fin 1) (kOf j)) (by
    intro a; match a with
    | ⟨0, _⟩ => rfl
    | ⟨1, _⟩ => rfl
    | ⟨2, _⟩ => rfl)]
  rw [shapeCast_apply _ _ _ (ix2 (⟨o.val / 128, by omega⟩ : Fin 5) (kOf j)) (by
    rw [Shape.rowMajor_val_two, Shape.rowMajor_val_three]; show o.val / 128 * 56 + j.val / 128 = (o.val / 128 * 1 + 0) * 56 + j.val / 128; omega)]
  rfl

/-- The dequantised rows, as the reference lays them out. -/
def deqs : FVec Ideal S18432x7168 .bf16 :=
  shapeCast S18432x7168 (mulf (shapeCast S18432x56x128 (extf .bf16 (k0_pay8 (k0_pay7 x)) bitsLt_fp8e4m3_bf16) shapeCasts_S18432x7168_S18432x56x128)
    (broadcastTo S18432x56x128 (shapeCast S18432x56x1 (truncf .bf16 (k0_pay6 x) bitsLt_bf16_f32) shapeCasts_S18432x56_S18432x56x1)
      broadcasts_S18432x56x1_S18432x56x128)) shapeCasts_S18432x56x128_S18432x7168

theorem deqs_apply (R : Fin 18432) (j : Fin 7168) : deqs x (ix2 R j) = dR x R j := by
  unfold deqs
  rw [shapeCast_apply _ _ _ (ix3 R (kOf j) (⟨j.val % 128, by omega⟩ : Fin 128)) (by
    rw [Shape.rowMajor_val_two, Shape.rowMajor_val_three]; show (R.val * 56 + j.val / 128) * 128 + j.val % 128 = R.val * 7168 + j.val; omega)]
  rw [mul_at, shapeCast_apply _ _ _ (ix2 R j) (by
    rw [Shape.rowMajor_val_two, Shape.rowMajor_val_three]; show R.val * 7168 + j.val = (R.val * 56 + j.val / 128) * 128 + j.val % 128; omega)]
  rw [broadcastTo_apply _ _ _ (ix3 R (kOf j) (0 : Fin 1)) (by
    intro a; match a with
    | ⟨0, _⟩ => rfl
    | ⟨1, _⟩ => rfl
    | ⟨2, _⟩ => rfl)]
  rw [shapeCast_apply _ _ _ (ix2 R (kOf j)) (by
    rw [Shape.rowMajor_val_two, Shape.rowMajor_val_three]; show R.val * 56 + j.val / 128 = (R.val * 56 + j.val / 128) * 1 + 0; omega)]
  rw [ext_at, tr_at, pay8_apply, pay6_apply]
  rfl

/-- The product of a row with the scaled weights' row `o`. -/
def yR (w : Vec Ideal S576x7168 .fp8e4m3) (v : Vec Ideal S5x56 .f32) (R : Fin 18432) (o : Fin 576) : EReal :=
  ∑ j : Fin 7168, dR x R j * wv w v o j

theorem pay9_apply (w : Vec Ideal S576x7168 .fp8e4m3) (v : Vec Ideal S5x56 .f32) (R : Fin 18432) (o : Fin 576) :
    k0_pay9 (k0_pay6 x) (k0_pay7 x) v w (ix2 R o) = yR x w v R o := by
  have h : k0_pay9 (k0_pay6 x) (k0_pay7 x) v w = matmul dot_S18432x7168_S576x7168_S18432x576_1_1_0_0_n_n none (deqs x)
    (mulf (extf .bf16 w bitsLt_fp8e4m3_bf16) (truncf .bf16 (rep v) bitsLt_bf16_f32)) (constant S18432x576 .f32 0x00000000#32) := by unfold k0_pay9 deqs rep; rfl
  rw [h]
  refine (Ideal.matmul_constant_zero_apply _ none _ _ _).trans ?_
  rw [← Equiv.sum_comp (contrEquiv1 dot_S18432x7168_S576x7168_S18432x576_1_1_0_0_n_n 7168 rfl rfl).symm]
  unfold yR
  refine Finset.sum_congr rfl fun j _ => ?_
  rw [lhs_at, rhs_at, deqs_apply, mul_at, ext_at, tr_at, rep_apply]
  rfl

/-- The normalised rows. -/
theorem pay10_apply (w : Vec Ideal S576x7168 .fp8e4m3) (v : Vec Ideal S5x56 .f32) (g : Vec Ideal S512 .bf16) (R : Fin 18432) (o : Fin 512) :
    k0_pay10 (k0_pay6 x) (k0_pay7 x) v w g (ix2 R o) = Cert.KernelIdeal.Vals.norm (fun q => yR x w v R ⟨q.val, by omega⟩) o (g (ix1 o)) := by
  unfold k0_pay10
  generalize hy : k0_pay9 (k0_pay6 x) (k0_pay7 x) v w = y
  have hu : ∀ q : Fin 512, extractStridedSlice S18432x512 ![0, 0] y slices_S18432x576_o0_0_S18432x512 (ix2 R q) = yR x w v R ⟨q.val, by omega⟩ := by
    intro q
    rw [extractStridedSlice_apply _ _ _ _ (ix2 R (⟨q.val, by omega⟩ : Fin 576)) (by
      intro b; match b with
      | ⟨0, _⟩ => show R.val = 0 + R.val; omega
      | ⟨1, _⟩ => show q.val = 0 + q.val; omega), ← hy, pay9_apply]
  have hd : ∀ s : EReal, Ideal.div s ((512 : ℝ) : EReal) = s * ((1 / 512 : ℝ) : EReal) := by
    intro s
    unfold Ideal.div
    rw [if_neg (by exact_mod_cast (by norm_num : (512 : ℝ) ≠ 0)), ← EReal.coe_inv, one_div]
  have hS : ∀ f : FVec Ideal S18432x512 .f32, (∀ q : Fin 512, f (ix2 R q) = yR x w v R ⟨q.val, by omega⟩ * yR x w v R ⟨q.val, by omega⟩) →
      multiReduction .add [1] S18432 f 0x00000000#32 reduces_S18432x512_S18432 (.inl rfl) rfl (ix1 R)
        = ∑ q : Fin 512, yR x w v R ⟨q.val, by omega⟩ * yR x w v R ⟨q.val, by omega⟩ := by
    intro f hf
    refine (Ideal.multiReduction_add_single _ _ _ _ _ _).trans ?_
    refine Finset.sum_congr rfl fun (q : Fin 512) _ => ?_
    have e : reduces_S18432x512_S18432.lift (ix1 R) q = ix2 R q := by
      funext a; match a with
      | ⟨0, _⟩ => apply Fin.ext; rfl
      | ⟨1, _⟩ => apply Fin.ext; rfl
    rw [e]
    exact hf q
  rw [tr_at, mul_at, mul_at, hu, broadcastTo_apply _ broadcasts_S18432x1_S18432x512 _ (ix2 R (0 : Fin 1)) (by
    intro a; match a with
    | ⟨0, _⟩ => rfl
    | ⟨1, _⟩ => rfl), broadcastTo_apply _ broadcasts_S1x512_S18432x512 _ (ix2 (0 : Fin 1) o) (by
    intro a; match a with
    | ⟨0, _⟩ => rfl
    | ⟨1, _⟩ => rfl), shapeCast_apply _ shapeCasts_S512_S1x512 _ (ix1 o) (by
      rw [Shape.rowMajor_val_one, Shape.rowMajor_val_two]; show o.val = 0 * 512 + o.val; omega), ext_at, rs_at,
    shapeCast_apply _ shapeCasts_S18432_S18432x1 _ (ix1 R) (by
      rw [Shape.rowMajor_val_one, Shape.rowMajor_val_two]; show R.val = R.val * 1 + 0; omega), c_512, hd,
    hS _ (fun q => by rw [mul_at, hu])]
  rfl

/-- The rotary rows. -/
theorem pay11_apply (w : Vec Ideal S576x7168 .fp8e4m3) (v : Vec Ideal S5x56 .f32) (b : Fin 9) (s : Fin 2048) (o : Fin 64) :
    k0_pay11 (k0_pay6 x) (k0_pay7 x) v w (ix3 b s o) = yR x w v ⟨b.val * 2048 + s.val, by omega⟩ ⟨512 + o.val, by omega⟩ := by
  unfold k0_pay11
  rw [shapeCast_apply _ _ _ (ix2 (⟨b.val * 2048 + s.val, by omega⟩ : Fin 18432) o) (by
    rw [Shape.rowMajor_val_two, Shape.rowMajor_val_three]; rfl)]
  rw [tr_at, extractStridedSlice_apply _ _ _ _ (ix2 (⟨b.val * 2048 + s.val, by omega⟩ : Fin 18432) (⟨512 + o.val, by omega⟩ : Fin 576)) (by
    intro b'; match b' with
    | ⟨0, _⟩ => show b.val * 2048 + s.val = 0 + (b.val * 2048 + s.val); omega
    | ⟨1, _⟩ => rfl)]
  exact pay9_apply x w v _ _

/-- The scales, the rows' axis in two. -/
theorem pay1_apply (b : Fin 9) (s : Fin 2048) (k : Fin 56) :
    k0_pay1 (k0_pay6 x) (ix3 b s k) = scl (amax (rb x ⟨b.val * 2048 + s.val, by omega⟩ k)) := by
  unfold k0_pay1
  rw [shapeCast_apply _ _ _ (ix2 (⟨b.val * 2048 + s.val, by omega⟩ : Fin 18432) k) (by
    rw [Shape.rowMajor_val_two, Shape.rowMajor_val_three]; rfl)]
  exact pay6_apply x _ k

end Cert.ReferenceIdeal.Vals

end
-- ==== Proof.RefFinal.lean ====
/-
  The reference's four result arrays over the extended reals, element by element, from the arrays it is launched with.
-/
module

public import proofs.«01_k».proof.Proof.Gen.ReferenceIdeal.Frame
public import proofs.«01_k».proof.Proof.RefVals
public import Idealize.ShloMosaic.Lib.Pipeline.Value
public import Idealize.ShloMosaic.Lib.Pipeline.ValueKit

@[expose] public section

noncomputable section

namespace Cert.ReferenceIdeal.Final

open Idealize.ShloMosaic hiding ix1 ix2 ix3
open Idealize.ShloMosaic.TcCoe Idealize.SL.Sem
open Idealize.ShloMosaic.ValueIdx Cert.ReferenceIdeal Cert.ReferenceIdeal.Gen Cert.ReferenceIdeal.Vals Cert.Spec
open Idealize.ShloMosaic.Pipeline (Dat)

variable (m : (ℓ : Loc nD τ sig) → Buf (Elt Ideal) ℓ) (ρ : Dev nD → PrngReg)

/-- The rows, as the region finds them. -/
def xr (c : Dev nD) : Vec Ideal S18432x7168 .bf16 := V m c main_v0
/-- The weights, as the region finds them. -/
def wr (c : Dev nD) : Vec Ideal S576x7168 .fp8e4m3 := V m c main_arg1
/-- The weights' scales, as the region finds them. -/
def vr (c : Dev nD) : Vec Ideal S5x56 .f32 := V m c main_arg2
/-- The norm's weights, as the region finds them. -/
def gr (c : Dev nD) : Vec Ideal S512 .bf16 := V m c main_arg3

/-- The rows are the first argument, its first two axes laid out as one. -/
theorem xr_eq (c : Dev nD) : xr m c
    = shapeCast S18432x7168 (m ((c : Thread nD τ).loc main_arg0)) shapeCasts_S9x2048x7168_S18432x7168 := by
  unfold xr
  dsimp only [V, hostOps0]
  after_results
  rfl

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 :=
  (by decide +kernel : ∀ t : Fin grid0.N, _)

/-- The one point stages all the rows. -/
theorem iblk0 (c : Dev nD) (t : Fin cfg0.N) : iblk m c 0 t = xr m c := by
  obtain ⟨e0, e1⟩ := idx0 t
  funext y
  show V m c main_v0 (((cfg0.win 0).blk t).view.emb y) = V m c main_v0 y
  congr 1; funext a; apply Fin.ext
  match a with
  | ⟨0, _⟩ => show win0_0.index t (0 : Fin 2) * 18432 + 1 * (y 0).val = (y 0).val; rw [e0]; omega
  | ⟨1, _⟩ => show win0_0.index t (1 : Fin 2) * 7168 + 1 * (y 1).val = (y 1).val; rw [e1]; omega

/-- The one point stages the whole weights. -/
theorem iblk1 (c : Dev nD) (t : Fin cfg0.N) : iblk m c 1 t = wr m c := by
  obtain ⟨e0, e1⟩ := idx1 t
  funext y
  show V m c main_arg1 (((cfg0.win 1).blk t).view.emb y) = V m c main_arg1 y
  congr 1; funext a; apply Fin.ext
  match a with
  | ⟨0, _⟩ => show win0_1.index t (0 : Fin 2) * 576 + 1 * (y 0).val = (y 0).val; rw [e0]; omega
  | ⟨1, _⟩ => show win0_1.index t (1 : Fin 2) * 7168 + 1 * (y 1).val = (y 1).val; rw [e1]; omega

/-- The one point stages the whole scales. -/
theorem iblk2 (c : Dev nD) (t : Fin cfg0.N) : iblk m c 2 t = vr m c := by
  obtain ⟨e0, e1⟩ := idx2 t
  funext y
  show V m c main_arg2 (((cfg0.win 2).blk t).view.emb y) = V m c main_arg2 y
  congr 1; funext a; apply Fin.ext
  match a with
  | ⟨0, _⟩ => show win0_2.index t (0 : Fin 2) * 5 + 1 * (y 0).val = (y 0).val; rw [e0]; omega
  | ⟨1, _⟩ => show win0_2.index t (1 : Fin 2) * 56 + 1 * (y 1).val = (y 1).val; rw [e1]; omega

/-- The one point stages the whole norm weights. -/
theorem iblk3 (c : Dev nD) (t : Fin cfg0.N) : iblk m c 3 t = gr m c := by
  have e0 := idx3 t
  funext y
  show V m c main_arg3 (((cfg0.win 3).blk t).view.emb y) = V m c main_arg3 y
  congr 1; funext a; apply Fin.ext
  match a with
  | ⟨0, _⟩ => show win0_3.index t (0 : Fin 1) * 512 + 1 * (y 0).val = (y 0).val; rw [e0]; omega

theorem z1 : (![0] : Fin 1 → Nat) = fun _ => 0 := by decide
theorem z2 : (![0, 0] : Fin 2 → Nat) = fun _ => 0 := by decide
theorem z3 : (![0, 0, 0] : Fin 3 → Nat) = fun _ => 0 := by decide

/-- The whole-block loads and stores of the body. -/
theorem out4_eq (x0 : Vec Ideal S18432x7168 .bf16) (x1 : Vec Ideal S576x7168 .fp8e4m3) (x2 : Vec Ideal S5x56 .f32) (x3 : Vec Ideal S512 .bf16) :
    out0_4 x0 x1 x2 x3 = k0_pay10 (k0_pay6 x0) (k0_pay7 x0) x2 x1 x3 := by
  unfold out0_4 k0_pay13 k0_pay12
  rw [View.canon_cons_unit_zero z2, View.ld_unit_zero z2, View.ld_unit_zero z2, View.ld_unit_zero z2, View.ld_unit_zero z1]
theorem out5_eq (x0 : Vec Ideal S18432x7168 .bf16) (x1 : Vec Ideal S576x7168 .fp8e4m3) (x2 : Vec Ideal S5x56 .f32) (x3 : Vec Ideal S512 .bf16) :
    out0_5 x0 x1 x2 x3 = k0_pay11 (k0_pay6 x0) (k0_pay7 x0) x2 x1 := by
  unfold out0_5 k0_pay13 k0_pay12
  rw [View.canon_cons_unit_zero z3, View.ld_unit_zero z2, View.ld_unit_zero z2, View.ld_unit_zero z2]
theorem out6_eq (x0 : Vec Ideal S18432x7168 .bf16) (x1 : Vec Ideal S576x7168 .fp8e4m3) (x2 : Vec Ideal S5x56 .f32) (x3 : Vec Ideal S512 .bf16) :
    out0_6 x0 x1 x2 x3 = k0_pay8 (k0_pay7 x0) := by
  unfold out0_6 k0_pay13
  rw [View.canon_cons_unit_zero z2, View.ld_unit_zero z2]
theorem out7_eq (x0 : Vec Ideal S18432x7168 .bf16) (x1 : Vec Ideal S576x7168 .fp8e4m3) (x2 : Vec Ideal S5x56 .f32) (x3 : Vec Ideal S512 .bf16) :
    out0_7 x0 x1 x2 x3 = k0_pay1 (k0_pay6 x0) := by
  unfold out0_7 k0_pay12
  rw [View.canon_cons_unit_zero z3, View.ld_unit_zero z2]

/-- The normalised rows, as an array. -/
def H4 (c : Dev nD) : Vec Ideal S18432x512 .bf16 := k0_pay10 (k0_pay6 (xr m c)) (k0_pay7 (xr m c)) (vr m c) (wr m c) (gr m c)
/-- The rotary rows, as an array. -/
def H5 (c : Dev nD) : Vec Ideal S9x2048x64 .bf16 := k0_pay11 (k0_pay6 (xr m c)) (k0_pay7 (xr m c)) (vr m c) (wr m c)
/-- The codes, as an array. -/
def H6 (c : Dev nD) : Vec Ideal S18432x7168 .fp8e4m3 := k0_pay8 (k0_pay7 (xr m c))
/-- The scales, as an array. -/
def H7 (c : Dev nD) : Vec Ideal S9x2048x56 .f32 := k0_pay1 (k0_pay6 (xr m c))

theorem after4 (c : Dev nD) (t : Fin cfg0.N) : (dats m 0 c).after 4 t = H4 m c := by
  rw [after0_4, out4_eq, iblk0, iblk1, iblk2, iblk3]; rfl
theorem after5 (c : Dev nD) (t : Fin cfg0.N) : (dats m 0 c).after 5 t = H5 m c := by
  rw [after0_5, out5_eq, iblk0, iblk1, iblk2]; rfl
theorem after6 (c : Dev nD) (t : Fin cfg0.N) : (dats m 0 c).after 6 t = H6 m c := by
  rw [after0_6, out6_eq, iblk0]; rfl
theorem after7 (c : Dev nD) (t : Fin cfg0.N) : (dats m 0 c).after 7 t = H7 m c := by
  rw [after0_7, out7_eq, iblk0]; rfl

theorem final4 (c : Dev nD) : (dats m 0 c).arrAt 4 cfg0.N = H4 m c :=
  (dats m 0 c).arrAt_eq_of_after_last 4 t0_0 (by decide +kernel) (H4 m c) (fun j => congrFun (after4 m c t0_0) j)
theorem final5 (c : Dev nD) : (dats m 0 c).arrAt 5 cfg0.N = H5 m c :=
  (dats m 0 c).arrAt_eq_of_after_last 5 t0_0 (by decide +kernel) (H5 m c) (fun j => congrFun (after5 m c t0_0) j)
theorem final6 (c : Dev nD) : (dats m 0 c).arrAt 6 cfg0.N = H6 m c :=
  (dats m 0 c).arrAt_eq_of_after_last 6 t0_0 (by decide +kernel) (H6 m c) (fun j => congrFun (after6 m c t0_0) j)
theorem final7 (c : Dev nD) : (dats m 0 c).arrAt 7 cfg0.N = H7 m c :=
  (dats m 0 c).arrAt_eq_of_after_last 7 t0_0 (by decide +kernel) (H7 m c) (fun j => congrFun (after7 m c t0_0) j)

/-- The reference runs, leaves its four arrays in its results and its arguments as launched. -/
theorem run : θ_run defs (onTc (τ := τ) (main (F := Ideal))) ⟨m, fun _ => 0, ρ⟩ fun r => ∀ c : Dev nD,
      r.2.mem ((c : Thread nD τ).loc main_v1_0) = H4 m c
      ∧ r.2.mem ((c : Thread nD τ).loc main_v1_1) = H5 m c
      ∧ r.2.mem ((c : Thread nD τ).loc main_v1_2) = H6 m c
      ∧ r.2.mem ((c : Thread nD τ).loc main_v1_3) = H7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final4 m c), ((h c).1 5).trans (final5 m c),
      ((h c).1 6).trans (final6 m c), ((h c).1 7).trans (final7 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.ReferenceIdeal.Final

end
-- ==== Proof.Equal.lean ====
/-
  The kernel's four arrays are the reference's, when every element of the first argument is a finite bf16.
-/
module

public import proofs.«01_k».proof.Defs
public import proofs.«01_k».proof.Proof.Gen.Pre_finite
public import proofs.«01_k».proof.Proof.Final
public import proofs.«01_k».proof.Proof.RefFinal

@[expose] public section

noncomputable section

namespace Cert.Equal

open Idealize.ShloMosaic hiding ix1 ix2 ix3
open Idealize.ShloMosaic.TcCoe
open Idealize.ShloMosaic.ValueIdx Cert.Spec
open Cert.KernelIdeal.Vals (rb col kOf wv dK norm)
open Cert.KernelIdeal.Final (yK row G4_apply G5_apply G6_apply G7_apply x0_eq)
open Cert.KernelIdeal.Points (x0 w0 v0)
open Cert.KernelIdeal.Value (G4 G5 G6 G7)
open Cert.ReferenceIdeal.Vals (dR yR pay1_apply pay8_apply pay10_apply pay11_apply)
open Cert.ReferenceIdeal.Final (xr wr vr gr H4 H5 H6 H7 xr_eq)

/-- A magnitude compared with the largest finite bf16, at an index. -/
theorem le_at {s : Shape} (a b : FVec Ideal s .bf16) (i : s.Idx) (h : cmpf .ole (Host.absf a) b i = 1#1) :
    max (a i : EReal) (-(a i)) ≤ b i := by
  have h' : BitVec.ofBool (decide (max (a i : EReal) (-(a i)) ≤ b i)) = 1#1 := h
  by_contra hn
  rw [decide_eq_false hn] at h'
  exact absurd h' (by decide)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The precondition, element by element of the rows. -/
theorem rows_le (hp : Pre_KernelIdeal_finite m) (c : Dev Cert.KernelIdeal.nD) (i : Cert.KernelIdeal.S18432x7168.Idx) :
    max (x0 m c i : EReal) (-(x0 m c i)) ≤ Ideal.ofBits .bf16 0x7F7F#16 := by
  rw [x0_eq]
  obtain ⟨k, hk⟩ : ∃ k, shapeCast Cert.KernelIdeal.S18432x7168 (m ((c : Thread Cert.KernelIdeal.nD Cert.KernelIdeal.τ).loc Cert.KernelIdeal.main_arg0))
      Cert.KernelIdeal.Gen.shapeCasts_S9x2048x7168_S18432x7168 i
        = (m ((c : Thread Cert.KernelIdeal.nD Cert.KernelIdeal.τ).loc Cert.KernelIdeal.main_arg0) : FVec Ideal Cert.KernelIdeal.S9x2048x7168 .bf16) k := ⟨_, rfl⟩
  rw [hk]
  exact le_at _ _ k (congrFun (hp c) k)

/-- The dequantised rows agree. -/
theorem deq_eq (hp : Pre_KernelIdeal_finite m) (c : Dev Cert.KernelIdeal.nD) (R : Fin 18432) (j : Fin 7168) :
    dK (x0 m c) R j = dR (x0 m c) R j := by
  have h := (quant_eq (rb (x0 m c) R (kOf j)) (fun l => rows_le m hp c (ix2 R (col (kOf j) l))) ⟨j.val % 128, by omega⟩).2
  have e : rb (x0 m c) R (kOf j) ⟨j.val % 128, by omega⟩ = x0 m c (ix2 R j) :=
    congrArg (fun q => x0 m c (ix2 R q)) (Cert.ReferenceIdeal.Vals.split j)
  rw [e] at h
  exact h

/-- The codes agree. -/
theorem code_eq (hp : Pre_KernelIdeal_finite m) (c : Dev Cert.KernelIdeal.nD) (R : Fin 18432) (j : Fin 7168) :
    codeK (amax (rb (x0 m c) R (kOf j))) (x0 m c (ix2 R j)) = code (amax (rb (x0 m c) R (kOf j))) (x0 m c (ix2 R j)) := by
  have h := (quant_eq (rb (x0 m c) R (kOf j)) (fun l => rows_le m hp c (ix2 R (col (kOf j) l))) ⟨j.val % 128, by omega⟩).1
  have e : rb (x0 m c) R (kOf j) ⟨j.val % 128, by omega⟩ = x0 m c (ix2 R j) :=
    congrArg (fun q => x0 m c (ix2 R q)) (Cert.ReferenceIdeal.Vals.split j)
  rw [e] at h
  exact h

/-- The products agree: the factors of each term commute. -/
theorem y_eq (hp : Pre_KernelIdeal_finite m) (c : Dev Cert.KernelIdeal.nD) (R : Fin 18432) (o : Fin 576) :
    yK m c R o = yR (x0 m c) (w0 m c) (v0 m c) R o := by
  unfold yK yR
  exact Finset.sum_congr rfl fun j _ => by rw [deq_eq m hp, mul_comm]

variable (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))

include h0 in
/-- Both programs quantise the same rows. -/
theorem x_same : xr m' c = x0 m c :=
  (xr_eq m' c).trans ((congrArg (fun a => shapeCast Cert.KernelIdeal.S18432x7168 a
    Cert.KernelIdeal.Gen.shapeCasts_S9x2048x7168_S18432x7168) h0).trans (x0_eq m c).symm)

include h1 in
/-- Both read the same weights. -/
theorem w_same : wr m' c = w0 m c :=
  (Cert.ReferenceIdeal.Gen.V_main_arg1 m' c).trans (h1.trans (Cert.KernelIdeal.Gen.V_main_arg1 m c).symm)

include h2 in
/-- Both read the same scales of the weights. -/
theorem v_same : vr m' c = v0 m c :=
  (Cert.ReferenceIdeal.Gen.V_main_arg2 m' c).trans (h2.trans (Cert.KernelIdeal.Gen.V_main_arg2 m c).symm)

include h0 h1 h2 h3 in
/-- The normalised rows agree. -/
theorem eq4 (hp : Pre_KernelIdeal_finite m) : H4 m' c = G4 m c := by
  funext i
  obtain ⟨R, o, rfl⟩ : ∃ (R : Fin 18432) (o : Fin 512), i = ix2 R o := ⟨_, _, ValueIdx.eq_ix2 i⟩
  have hg : gr m' c (ix1 o) = m ((c : Thread Cert.KernelIdeal.nD Cert.KernelIdeal.τ).loc Cert.KernelIdeal.main_arg3) (ix1 o) :=
    congrFun ((Cert.ReferenceIdeal.Gen.V_main_arg3 m' c).trans h3) (ix1 o)
  unfold H4
  rw [x_same m m' c h0, w_same m m' c h1, v_same m m' c h2]
  refine (pay10_apply _ _ _ _ R o).trans ((?_ : _ = _).trans (G4_apply m c R o).symm)
  rw [hg]
  exact congrArg (fun f => norm f o _) (funext fun q => (y_eq m hp c R ⟨q.val, by omega⟩).symm)

include h0 h1 h2 in
/-- The rotary rows agree. -/
theorem eq5 (hp : Pre_KernelIdeal_finite m) : H5 m' c = G5 m c := by
  funext i
  obtain ⟨b, s, o, rfl⟩ : ∃ (b : Fin 9) (s : Fin 2048) (o : Fin 64), i = ix3 b s o := ⟨_, _, _, ValueIdx.eq_ix3 i⟩
  unfold H5
  rw [x_same m m' c h0, w_same m m' c h1, v_same m m' c h2]
  exact (pay11_apply _ _ _ b s o).trans ((y_eq m hp c (row b s) ⟨512 + o.val, by omega⟩).symm.trans (G5_apply m c b s o).symm)

include h0 in
/-- The codes agree. -/
theorem eq6 (hp : Pre_KernelIdeal_finite m) : H6 m' c = G6 m c := by
  funext i
  obtain ⟨R, j, rfl⟩ : ∃ (R : Fin 18432) (j : Fin 7168), i = ix2 R j := ⟨_, _, ValueIdx.eq_ix2 i⟩
  unfold H6
  rw [x_same m m' c h0]
  exact (pay8_apply _ R j).trans ((code_eq m hp c R j).symm.trans (G6_apply m c R j).symm)

include h0 in
/-- The scales agree. -/
theorem eq7 : H7 m' c = G7 m c := by
  funext i
  obtain ⟨b, s, k, rfl⟩ : ∃ (b : Fin 9) (s : Fin 2048) (k : Fin 56), i = ix3 b s k := ⟨_, _, _, ValueIdx.eq_ix3 i⟩
  unfold H7
  rw [x_same m m' c h0]
  exact (pay1_apply _ b s k).trans (G7_apply m c b s k).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.Pre_finite
public import Idealize.ShloMosaic.Adequacy
public import Idealize.ShloMosaic.Init
public import Idealize.ShloMosaic.Lib.Bf16Pair
public import proofs.«01_k».proof.Proof.Equal

@[expose] public section

noncomputable section

namespace Cert.Proof

open Idealize.ShloMosaic Idealize.SL.Sem Cert.Kernel

/-- The rewrites that take the kernel to its form over the extended reals are the sanctioned ones. -/
theorem preserves : Cert.preserves_Kernel_KernelIdeal :=
  ⟨IdealRules.bf16_pair.statement _ _ (by decide), IdealRules.bf16_pair.statement _ _ (by decide),
    IdealRules.bf16_pair.selectZeroStatement _, IdealRules.named_const.statement _ _ _ _ _ rfl,
    IdealRules.named_const.statement _ _ _ _ _ rfl⟩

/-- Over the extended reals, where every element of the first argument is a finite bf16, the kernel and the reference
    both run and end with the same four results. -/
theorem algebraic : Cert.algebraic_KernelIdeal_ReferenceIdeal_pre_finite := by
  intro m g m' g' hp h
  refine ⟨fun c => Cert.KernelIdeal.Value.G4 m c, fun c => Cert.KernelIdeal.Value.G5 m c,
    fun c => Cert.KernelIdeal.Value.G6 m c, fun c => Cert.KernelIdeal.Value.G7 m c, Cert.KernelIdeal.Value.run m g, ?_⟩
  refine (θ_run _ _ _).mono (fun r hr c => ?_) (Cert.ReferenceIdeal.Final.run m' g')
  obtain ⟨e4, e5, e6, e7, k⟩ := hr c
  obtain ⟨h0, h1, h2, h3⟩ := h c
  exact ⟨e4.trans (Cert.Equal.eq4 m m' c h0 h1 h2 h3 hp), e5.trans (Cert.Equal.eq5 m m' c h0 h1 h2 hp),
    e6.trans (Cert.Equal.eq6 m m' c h0 hp), e7.trans (Cert.Equal.eq7 m m' c h0), k⟩

/-- Everything claimed. -/
theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g, preserves, algebraic⟩

end Cert.Proof

end
